-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4096x128 : Shape := ⟨3, ![1, 4096, 128]⟩
abbrev S1x4096x4096 : Shape := ⟨3, ![1, 4096, 4096]⟩
abbrev S1x4096 : Shape := ⟨2, ![1, 4096]⟩
abbrev S128x128 : Shape := ⟨2, ![128, 128]⟩
abbrev S128 : Shape := ⟨1, ![128]⟩
abbrev S_ : Shape := ⟨0, ![]⟩
abbrev S1 : Shape := ⟨1, ![1]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part3 {F : FTy → Type} [FloatOps F] (main_v46 : IVec S_ 1) (main_v49 : IVec S128x128 1) (main_c_19 : IVec S_ 1) : IVec S_ 1 :=
  let main_v50 : IVec S_ 1 := (fun x v => Host.reduce IntOp.andi x v reducesTo_S128x128_S_d0_1 h_S_) main_v49 main_c_19
  let main_v51 : IVec S_ 1 := andi main_v46 main_v50
  main_v51

def fn_part2 {F : FTy → Type} [FloatOps F] (main_arg11 : FVec F S128 .f32) (main_arg12 : FVec F S_ .f32) (main_arg13 : FVec F S128x128 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg11
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S_ .f32 := Host.absf main_arg12
  let main_cst_16 : FVec F S_ .f32 := constant S_ .f32 0x7F800000#32
  let main_v44 : IVec S_ 1 := cmpf .olt main_v43 main_cst_16
  let main_c_17 : IVec S_ 1 := constantI S_ 1 1#1
  let main_v45 : IVec S_ 1 := (fun x v => Host.reduce IntOp.andi x v reducesTo_S_S_d h_S_) main_v44 main_c_17
  let main_v46 : IVec S_ 1 := andi main_v42 main_v45
  let main_v47 : FVec F S128x128 .f32 := Host.absf main_arg13
  let main_cst_18 : FVec F S_ .f32 := constant S_ .f32 0x7F800000#32
  let main_v48 : FVec F S128x128 .f32 := broadcastInDim S128x128 ![] bcast_S_S128x128 main_cst_18
  let main_v49 : IVec S128x128 1 := cmpf .olt main_v47 main_v48
  let main_c_19 : IVec S_ 1 := constantI S_ 1 1#1
  fn_part3 (F := F) main_v46 main_v49 main_c_19

def fn_part1 {F : FTy → Type} [FloatOps F] (main_arg7 : FVec F S128x128 .f32) (main_arg8 : FVec F S128 .f32) (main_arg9 : FVec F S_ .f32) (main_arg10 : FVec F S128x128 .f32) (main_arg11 : FVec F S128 .f32) (main_arg12 : FVec F S_ .f32) (main_arg13 : FVec F S128x128 .f32) (main_v13 : IVec S_ 1) (main_v16 : IVec S1x4096x4096 1) : IVec S_ 1 :=
  let main_c_5 : IVec S_ 1 := constantI S_ 1 1#1
  let main_v17 : IVec S_ 1 := (fun x v => Host.reduce IntOp.andi x v reducesTo_S1x4096x4096_S_d0_1_2 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S_ .f32 := Host.absf main_arg9
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S128x128 .f32 := Host.absf main_arg10
  fn_part2 (F := F) main_arg11 main_arg12 main_arg13 main_v32 main_v33

def fn {F : FTy → Type} [FloatOps F] (main_arg0 : FVec F S1x4096x128 .f32) (main_arg1 : FVec F S1x4096x128 .f32) (main_arg2 : FVec F S1x4096x4096 .f32) (main_arg3 : FVec F S1x4096x4096 .f32) (main_arg4 : FVec F S1x4096 .f32) (main_arg5 : FVec F S1x4096 .f32) (main_arg6 : FVec F S1x4096 .f32) (main_arg7 : FVec F S128x128 .f32) (main_arg8 : FVec F S128 .f32) (main_arg9 : FVec F S_ .f32) (main_arg10 : FVec F S128x128 .f32) (main_arg11 : FVec F S128 .f32) (main_arg12 : FVec F S_ .f32) (main_arg13 : FVec F S128x128 .f32) (main_arg14 : FVec F S1 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x128 .f32 := Host.absf main_arg1
  let main_cst_0 : FVec F S_ .f32 := constant S_ .f32 0x7F800000#32
  let main_v5 : FVec F S1x4096x128 .f32 := broadcastInDim S1x4096x128 ![] bcast_S_S1x4096x128 main_cst_0
  let main_v6 : IVec S1x4096x128 1 := cmpf .olt main_v4 main_v5
  let main_c_1 : IVec S_ 1 := constantI S_ 1 1#1
  let main_v7 : IVec S_ 1 := (fun x v => Host.reduce IntOp.andi x v reducesTo_S1x4096x128_S_d0_1_2 h_S_) main_v6 main_c_1
  let main_v8 : IVec S_ 1 := andi main_v3 main_v7
  let main_v9 : FVec F S1x4096x4096 .f32 := Host.absf main_arg2
  let main_cst_2 : FVec F S_ .f32 := constant S_ .f32 0x7F800000#32
  let main_v10 : FVec F S1x4096x4096 .f32 := broadcastInDim S1x4096x4096 ![] bcast_S_S1x4096x4096 main_cst_2
  let main_v11 : IVec S1x4096x4096 1 := cmpf .olt main_v9 main_v10
  let main_c_3 : IVec S_ 1 := constantI S_ 1 1#1
  let main_v12 : IVec S_ 1 := (fun x v => Host.reduce IntOp.andi x v reducesTo_S1x4096x4096_S_d0_1_2 h_S_) main_v11 main_c_3
  let main_v13 : IVec S_ 1 := andi main_v8 main_v12
  let main_v14 : FVec F S1x4096x4096 .f32 := Host.absf main_arg3
  let main_cst_4 : FVec F S_ .f32 := constant S_ .f32 0x7F800000#32
  let main_v15 : FVec F S1x4096x4096 .f32 := broadcastInDim S1x4096x4096 ![] bcast_S_S1x4096x4096 main_cst_4
  let main_v16 : IVec S1x4096x4096 1 := cmpf .olt main_v14 main_v15
  fn_part1 (F := F) main_arg7 main_arg8 main_arg9 main_arg10 main_arg11 main_arg12 main_arg13 main_v13 main_v16
-- ==== Kernel.lean ====
abbrev S1x4096x128 : Shape := ⟨3, ![1, 4096, 128]⟩
abbrev S1x4096x4096 : Shape := ⟨3, ![1, 4096, 4096]⟩
abbrev S1x4096 : Shape := ⟨2, ![1, 4096]⟩
abbrev S128x128 : Shape := ⟨2, ![128, 128]⟩
abbrev S128 : Shape := ⟨1, ![128]⟩
abbrev S_ : Shape := ⟨0, ![]⟩
abbrev S1 : Shape := ⟨1, ![1]⟩
abbrev S4096x4096 : Shape := ⟨2, ![4096, 4096]⟩
abbrev S4096x128 : Shape := ⟨2, ![4096, 128]⟩
abbrev S1x128 : Shape := ⟨2, ![1, 128]⟩
abbrev S1x1 : Shape := ⟨2, ![1, 1]⟩
abbrev S4096x1 : Shape := ⟨2, ![4096, 1]⟩
abbrev S4096x4 : Shape := ⟨2, ![4096, 4]⟩
abbrev S256x4096 : Shape := ⟨2, ![256, 4096]⟩
abbrev S256x128 : Shape := ⟨2, ![256, 128]⟩
abbrev S4096x256 : Shape := ⟨2, ![4096, 256]⟩
abbrev S2x128 : Shape := ⟨2, ![2, 128]⟩
abbrev S256x256 : Shape := ⟨2, ![256, 256]⟩
abbrev S1x256 : Shape := ⟨2, ![1, 256]⟩
abbrev S1x1x4096 : Shape := ⟨3, ![1, 1, 4096]⟩
abbrev S1x1x1 : Shape := ⟨3, ![1, 1, 1]⟩
abbrev S128x1 : Shape := ⟨2, ![128, 1]⟩
abbrev S4x4096 : Shape := ⟨2, ![4, 4096]⟩
abbrev S1x16384 : Shape := ⟨2, ![1, 16384]⟩

abbrev nBuf : Space → Nat
  | .hbm => 33
  | .vmem => 26
  | .smem => 3
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S1x4096x4096, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S128x128, .f32⟩
  | .hbm, ⟨14, _⟩ => ⟨S1, .f32⟩
  | .hbm, ⟨15, _⟩ => ⟨S4096x4096, .f32⟩
  | .hbm, ⟨16, _⟩ => ⟨S4096x4096, .f32⟩
  | .hbm, ⟨17, _⟩ => ⟨S4096x128, .f32⟩
  | .hbm, ⟨18, _⟩ => ⟨S4096x128, .f32⟩
  | .hbm, ⟨19, _⟩ => ⟨S1x128, .f32⟩
  | .hbm, ⟨20, _⟩ => ⟨S1x128, .f32⟩
  | .hbm, ⟨21, _⟩ => ⟨S1x1, .f32⟩
  | .hbm, ⟨22, _⟩ => ⟨S1x1, .f32⟩
  | .hbm, ⟨23, _⟩ => ⟨S1x1, .f32⟩
  | .hbm, ⟨24, _⟩ => ⟨S4096x1, .f32⟩
  | .hbm, ⟨25, _⟩ => ⟨S4096x1, .f32⟩
  | .hbm, ⟨26, _⟩ => ⟨S4096x128, .f32⟩
  | .hbm, ⟨27, _⟩ => ⟨S4096x128, .f32⟩
  | .hbm, ⟨28, _⟩ => ⟨S4096x4, .f32⟩
  | .hbm, ⟨29, _⟩ => ⟨S4x4096, .f32⟩
  | .hbm, ⟨30, _⟩ => ⟨S1x16384, .f32⟩
  | .hbm, ⟨31, _⟩ => ⟨S1x4096x128, .f32⟩
  | .hbm, ⟨32, _⟩ => ⟨S1x4096x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x4096, .f32⟩
  | .local _ .vmem, ⟨11, _⟩ => ⟨S128x128, .f32⟩
  | .local _ .vmem, ⟨12, _⟩ => ⟨S4096x1, .f32⟩
  | .local _ .vmem, ⟨13, _⟩ => ⟨S4096x1, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S4096x4, .f32⟩
  | .local _ .vmem, ⟨19, _⟩ => ⟨S4096x256, .bf16⟩
  | .local _ .vmem, ⟨20, _⟩ => ⟨S4096x256, .bf16⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S2x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg15_1 : Ref sig .tc := ⟨.vmem, 15, rfl⟩
abbrev cc0_stg16_0 : Ref sig .tc := ⟨.vmem, 16, rfl⟩
abbrev cc0_stg16_1 : Ref sig .tc := ⟨.vmem, 17, rfl⟩
abbrev cc0_stg17_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_stg8_0 : Ref sig .tc := ⟨.smem, 0, rfl⟩
abbrev cc0_stg9_0 : Ref sig .tc := ⟨.smem, 1, rfl⟩
abbrev cc0_stg12_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c256_i32 : BitVec 32 := 256#32
  let v59 : BitVec 32 := Scalar.muli arg0 c256_i32
  let v60 : Index := Scalar.indexCast v59
  let c0_28 : Index := 0#32
  ![v60.toNat, 0]
def k0_off2 (i : grid0.Coords) : Fin 2 → Nat :=
  let c0_32 : Index := 0#32
  let arg0 : BitVec 32 := BitVec.ofNat 32 (i 0).val
  let c256_i32 : BitVec 32 := 256#32
  let v59 : BitVec 32 := Scalar.muli arg0 c256_i32
  let v76 : Index := Scalar.indexCast v59
  ![0, v76.toNat]
def k0_cond5 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4096x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S1x4096x128 : Shape := ⟨3, ![1, 4096, 128]⟩
abbrev S1x4096x4096 : Shape := ⟨3, ![1, 4096, 4096]⟩
abbrev S1x4096 : Shape := ⟨2, ![1, 4096]⟩
abbrev S128x128 : Shape := ⟨2, ![128, 128]⟩
abbrev S128 : Shape := ⟨1, ![128]⟩
abbrev S_ : Shape := ⟨0, ![]⟩
abbrev S1 : Shape := ⟨1, ![1]⟩
abbrev S1x1x128 : Shape := ⟨3, ![1, 1, 128]⟩
abbrev S1x4096x1 : Shape := ⟨3, ![1, 4096, 1]⟩
abbrev S1x128 : Shape := ⟨2, ![1, 128]⟩
abbrev S128x1x4096 : Shape := ⟨3, ![128, 1, 4096]⟩
abbrev S1x1 : Shape := ⟨2, ![1, 1]⟩
abbrev S1x16384 : Shape := ⟨2, ![1, 16384]⟩

abbrev nBuf : Space → Nat
  | .hbm => 120
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S1x4096x4096, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S128x128, .f32⟩
  | .hbm, ⟨14, _⟩ => ⟨S1, .f32⟩
  | .hbm, ⟨15, _⟩ => ⟨S1x4096x128, .f32⟩
  | .hbm, ⟨16, _⟩ => ⟨S1x4096x128, .f32⟩
  | .hbm, ⟨17, _⟩ => ⟨S1x1x128, .f32⟩
  | .hbm, ⟨18, _⟩ => ⟨S1x4096x128, .f32⟩
  | .hbm, ⟨19, _⟩ => ⟨S1x4096x128, .f32⟩
  | .hbm, ⟨20, _⟩ => ⟨S_, .f32⟩
  | .hbm, ⟨21, _⟩ => ⟨S1x4096x128, .f32⟩
  | .hbm, ⟨22, _⟩ => ⟨S1x4096x128, .i1⟩
  | .hbm, ⟨23, _⟩ => ⟨S1x4096x128, .f32⟩
  | .hbm, ⟨24, _⟩ => ⟨S1x4096x128, .f32⟩
  | .hbm, ⟨25, _⟩ => ⟨S1x4096x128, .f32⟩
  | .hbm, ⟨26, _⟩ => ⟨S1x4096x1, .f32⟩
  | .hbm, ⟨27, _⟩ => ⟨S1x4096x128, .f32⟩
  | .hbm, ⟨28, _⟩ => ⟨S1x4096x128, .f32⟩
  | .hbm, ⟨29, _⟩ => ⟨S_, .f32⟩
  | .hbm, ⟨30, _⟩ => ⟨S1x128, .f32⟩
  | .hbm, ⟨31, _⟩ => ⟨S_, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x4096x128, .f32⟩
  | .hbm, ⟨44, _⟩ => ⟨S1x4096x128, .f32⟩
  | .hbm, ⟨45, _⟩ => ⟨S1x1x128, .f32⟩
  | .hbm, ⟨46, _⟩ => ⟨S1x4096x128, .f32⟩
  | .hbm, ⟨47, _⟩ => ⟨S1x4096x128, .f32⟩
  | .hbm, ⟨48, _⟩ => ⟨S_, .f32⟩
  | .hbm, ⟨49, _⟩ => ⟨S1x4096x128, .f32⟩
  | .hbm, ⟨50, _⟩ => ⟨S1x4096x128, .i1⟩
  | .hbm, ⟨51, _⟩ => ⟨S1x4096x128, .f32⟩
  | .hbm, ⟨52, _⟩ => ⟨S1x4096x128, .f32⟩
  | .hbm, ⟨53, _⟩ => ⟨S1x4096x128, .f32⟩
  | .hbm, ⟨54, _⟩ => ⟨S1x4096x1, .f32⟩
  | .hbm, ⟨55, _⟩ => ⟨S1x4096x128, .f32⟩
  | .hbm, ⟨56, _⟩ => ⟨S1x4096x128, .f32⟩
  | .hbm, ⟨57, _⟩ => ⟨S_, .f32⟩
  | .hbm, ⟨58, _⟩ => ⟨S1x128, .f32⟩
  | .hbm, ⟨59, _⟩ => ⟨S_, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S1x4096x128, .f32⟩
  | .hbm, ⟨72, _⟩ => ⟨S1x4096x128, .f32⟩
  | .hbm, ⟨73, _⟩ => ⟨S1x1x128, .f32⟩
  | .hbm, ⟨74, _⟩ => ⟨S1x4096x128, .f32⟩
  | .hbm, ⟨75, _⟩ => ⟨S1x4096x128, .f32⟩
  | .hbm, ⟨76, _⟩ => ⟨S_, .f32⟩
  | .hbm, ⟨77, _⟩ => ⟨S1x4096x128, .f32⟩
  | .hbm, ⟨78, _⟩ => ⟨S1x4096x128, .i1⟩
  | .hbm, ⟨79, _⟩ => ⟨S1x4096x128, .f32⟩
  | .hbm, ⟨80, _⟩ => ⟨S1x4096x128, .f32⟩
  | .hbm, ⟨81, _⟩ => ⟨S1x4096x128, .f32⟩
  | .hbm, ⟨82, _⟩ => ⟨S1x4096x128, .f32⟩
  | .hbm, ⟨83, _⟩ => ⟨S1x4096x128, .f32⟩
  | .hbm, ⟨84, _⟩ => ⟨S1x1x128, .f32⟩
  | .hbm, ⟨85, _⟩ => ⟨S1x4096x128, .f32⟩
  | .hbm, ⟨86, _⟩ => ⟨S1x4096x128, .f32⟩
  | .hbm, ⟨87, _⟩ => ⟨S_, .f32⟩
  | .hbm, ⟨88, _⟩ => ⟨S1x4096x128, .f32⟩
  | .hbm, ⟨89, _⟩ => ⟨S1x4096x128, .i1⟩
  | .hbm, ⟨90, _⟩ => ⟨S1x4096x128, .f32⟩
  | .hbm, ⟨91, _⟩ => ⟨S1x4096x128, .f32⟩
  | .hbm, ⟨92, _⟩ => ⟨S1x4096x128, .f32⟩
  | .hbm, ⟨93, _⟩ => ⟨S1x1x128, .f32⟩
  | .hbm, ⟨94, _⟩ => ⟨S1x4096x128, .f32⟩
  | .hbm, ⟨95, _⟩ => ⟨S1x1x128, .f32⟩
  | .hbm, ⟨96, _⟩ => ⟨S1x4096x128, .f32⟩
  | .hbm, ⟨97, _⟩ => ⟨S128x1x4096, .f32⟩
  | .hbm, ⟨98, _⟩ => ⟨S1x4096, .f32⟩
  | .hbm, ⟨99, _⟩ => ⟨S1x1, .f32⟩
  | .hbm, ⟨100, _⟩ => ⟨S1x4096, .f32⟩
  | .hbm, ⟨101, _⟩ => ⟨S1x4096, .f32⟩
  | .hbm, ⟨102, _⟩ => ⟨S1x4096, .f32⟩
  | .hbm, ⟨103, _⟩ => ⟨S128x1x4096, .f32⟩
  | .hbm, ⟨104, _⟩ => ⟨S1x4096, .f32⟩
  | .hbm, ⟨105, _⟩ => ⟨S1x1, .f32⟩
  | .hbm, ⟨106, _⟩ => ⟨S1x4096, .f32⟩
  | .hbm, ⟨107, _⟩ => ⟨S1x4096, .f32⟩
  | .hbm, ⟨108, _⟩ => ⟨S1x4096, .f32⟩
  | .hbm, ⟨109, _⟩ => ⟨S128x1x4096, .f32⟩
  | .hbm, ⟨110, _⟩ => ⟨S1x4096, .f32⟩
  | .hbm, ⟨111, _⟩ => ⟨S1x1, .f32⟩
  | .hbm, ⟨112, _⟩ => ⟨S1x4096, .f32⟩
  | .hbm, ⟨113, _⟩ => ⟨S1x4096, .f32⟩
  | .hbm, ⟨114, _⟩ => ⟨S128x1x4096, .f32⟩
  | .hbm, ⟨115, _⟩ => ⟨S1x4096, .f32⟩
  | .hbm, ⟨116, _⟩ => ⟨S1x1, .f32⟩
  | .hbm, ⟨117, _⟩ => ⟨S1x4096, .f32⟩
  | .hbm, ⟨118, _⟩ => ⟨S1x4096, .f32⟩
  | .hbm, ⟨119, _⟩ => ⟨S1x16384, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Proof.RunA.lean ====
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first condition of the body: the first point. It is also the third. -/
abbrev isFirst (i : grid0.Coords) : Prop := (Scalar.cmpi .ne (Scalar.extui (Scalar.cmpi .eq (BitVec.ofNat 32 (i 0).val) 0#32)) 0#32) = 1#1
/-- The second condition of the body: a point with a row block of its own. -/
abbrev isBlock (i : grid0.Coords) : Prop := k0_cond2 i = 1#1
/-- The fourth condition of the body: a point after the first. -/
abbrev isLater (i : grid0.Coords) : Prop := (Scalar.cmpi .ne (Scalar.extui (Scalar.cmpi .sgt (BitVec.ofNat 32 (i 0).val) 0#32)) 0#32) = 1#1
/-- The fifth condition of the body: the last point, where the scores are computed. -/
abbrev isLast (i : grid0.Coords) : Prop := k0_cond5 i = 1#1

set_option maxHeartbeats 1200000 in
/-- The body run at the first point, with the pieces stored into each buffer found by the run. -/
def runA (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (arg10 : Memref sig .tc .smem S1x1 .f32) (harg10 : arg10.IsWhole) (arg11 : Memref sig .tc .vmem S1x4096 .f32) (harg11 : arg11.IsWhole) (arg12 : Memref sig .tc .vmem S128x128 .f32) (harg12 : arg12.IsWhole) (arg13 : Memref sig .tc .smem S1x1 .f32) (harg13 : arg13.IsWhole) (arg14 : Memref sig .tc .vmem S4096x1 .f32) (harg14 : arg14.IsWhole) (arg15 : Memref sig .tc .vmem S4096x1 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x4 .f32) (harg18 : arg18.IsWhole) (arg19 : Memref sig .tc .vmem S4096x256 .bf16) (harg19 : arg19.IsWhole) (arg20 : Memref sig .tc .vmem S4096x256 .bf16) (harg20 : arg20.IsWhole) (arg21 : Memref sig .tc .vmem S4096x128 .f32) (harg21 : arg21.IsWhole) (arg22 : Memref sig .tc .vmem S4096x128 .f32) (harg22 : arg22.IsWhole) (arg23 : Memref sig .tc .vmem S4096x128 .f32) (harg23 : arg23.IsWhole) (arg24 : Memref sig .tc .vmem S4096x128 .f32) (harg24 : arg24.IsWhole) (arg25 : Memref sig .tc .vmem S2x128 .f32) (harg25 : arg25.IsWhole) (h0 : isFirst i) (h1 : isBlock i) (h3 : ¬isLater i) (h4 : ¬isLast i)
    (x1 : Vec F S256x4096 .f32) (x2 : Vec F S256x4096 .f32) (x3 : Vec F S4096x128 .f32) (x4 : Vec F S4096x128 .f32) (x5 : Vec F S128x128 .f32) (x6 : Vec F S128x128 .f32) (x7 : Vec F S1x128 .f32) (x8 : Vec F S1x128 .f32) (x9 : Vec F S1x1 .f32) (x10 : Vec F S1x1 .f32) (x11 : Vec F S1x4096 .f32) (x12 : Vec F S128x128 .f32) (x13 : Vec F S1x1 .f32) (x14 : Vec F S4096x1 .f32) (x15 : Vec F S4096x1 .f32) (x21 : Vec F S4096x128 .f32) (x22 : Vec F S4096x128 .f32) (x23 : Vec F S4096x128 .f32) (x24 : Vec F S4096x128 .f32) :
    Σ' (L16 : List (View.Piece (Elt F) S256x128 .f32)), Σ' (L17 : List (View.Piece (Elt F) S256x128 .f32)), Σ' (L19 : List (View.Piece (Elt F) S4096x256 .bf16)), Σ' (L20 : List (View.Piece (Elt F) S4096x256 .bf16)), Σ' (L21 : List (View.Piece (Elt F) S4096x128 .f32)), Σ' (L22 : List (View.Piece (Elt F) S4096x128 .f32)), Σ' (L23 : List (View.Piece (Elt F) S4096x128 .f32)), Σ' (L24 : List (View.Piece (Elt F) S4096x128 .f32)), { L25 : List (View.Piece (Elt F) S2x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ d, owns (c : Thread nD τ) arg18 fullShare d) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24) ∗ (∃ f, arg25.view.loc (c : Thread nD τ) ↦[arg25.view.set]{fullShare} arg25.view.writes (Elt F) f L25)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, ⟨%f21, %e21, H21⟩, ⟨%f22, %e22, H22⟩, ⟨%f23, %e23, H23⟩, ⟨%f24, %e24, H24⟩, ⟨%d25, %f25, -, H25⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg21.eq_unread e21; obtain rfl := harg22.eq_unread e22; obtain rfl := harg23.eq_unread e23; obtain rfl := harg24.eq_unread e24
    sl_exec (disch := first | sl_exact h0 | sl_exact h1 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; iexact H16
    isplitl [H17]
    · iexists _; iexact H17
    isplitl [H18]
    · iexists _, _; isplitr; swap; · iexact H18
      ipureintro; rfl
    isplitl [H19]
    · iexists _; iexact H19
    isplitl [H20]
    · iexists _; iexact H20
    isplitl [H21]
    · iexact H21
    isplitl [H22]
    · iexact H22
    isplitl [H23]
    · iexact H23
    isplitl [H24]
    · iexact H24
    iexists _; iexact H25

end Cert.KernelIdeal.Body

end
-- ==== Proof.Blocks.lean ====
module

public import proofs.«01_k».proof.Proof.Gen.KernelIdeal.Frame
public import proofs.«01_k».proof.Proof.Gen.KernelIdeal.Skeleton
public import Idealize.ShloMosaic.Lib.WritesUnit
public import Idealize.ShloMosaic.Lib.Pipeline.ValueKit.Basic
public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one element of a 1 × 1 array. -/
def sc (x : Vec F S1x1 .f32) : Elt F .f32 :=
  View.ld x (Rect.unit ![0, 0] S1x1.size inb_S1x1_S1x1_0_0) (Shape.Idx.first (by decide))

/-- Both graphs' node features times the first weight matrix, side by side, as the first point stores them. -/
def feat1 (w : Vec F S128x128 .f32) (s1 s2 : Vec F S4096x128 .f32) : Vec F S4096x256 .bf16 :=
  View.canon (Val := Elt F)
    [⟨Rect.unit ![0, 128] S4096x128.size inb_S4096x256_S4096x128_0_128, k0_pay4 w s2⟩,
     ⟨Rect.unit ![0, 0] S4096x128.size inb_S4096x256_S4096x128_0_0, k0_pay3 w s1⟩]

/-- The same with the second weight matrix. -/
def feat2 (w : Vec F S128x128 .f32) (s1 s2 : Vec F S4096x128 .f32) : Vec F S4096x256 .bf16 :=
  View.canon (Val := Elt F)
    [⟨Rect.unit ![0, 128] S4096x128.size inb_S4096x256_S4096x128_0_128, k0_pay6 w s2⟩,
     ⟨Rect.unit ![0, 0] S4096x128.size inb_S4096x256_S4096x128_0_0, k0_pay5 w s1⟩]

/-- A row block of the first hidden array. -/
def blkH1 (adj : Vec F S256x4096 .f32) (fa : Vec F S4096x256 .bf16) (b : Vec F S1x128 .f32) (a : Vec F S1x1 .f32) : Vec F S256x128 .f32 :=
  k0_pay13 (sc a) b adj fa
/-- A row block of the third hidden array. -/
def blkH3 (adj : Vec F S256x4096 .f32) (fa : Vec F S4096x256 .bf16) (b : Vec F S1x128 .f32) (a : Vec F S1x1 .f32) : Vec F S256x128 .f32 :=
  k0_pay14 (sc a) b adj fa
/-- A row block of the second hidden array. -/
def blkH2 (dif : Vec F S256x4096 .f32) (fd : Vec F S4096x256 .bf16) (b : Vec F S1x128 .f32) (a : Vec F S1x1 .f32) : Vec F S256x128 .f32 :=
  k0_pay18 (k0_pay15 b dif fd) (k0_pay16 b dif fd) (k0_pay17 (sc a) b dif fd)
/-- A row block of the fourth hidden array. -/
def blkH4 (dif : Vec F S256x4096 .f32) (fd : Vec F S4096x256 .bf16) (b : Vec F S1x128 .f32) (a : Vec F S1x1 .f32) : Vec F S256x128 .f32 :=
  k0_pay22 (sc a) (k0_pay10 b) (k0_pay12 dif fd)
/-- The part of the mask that goes with a point's row block. -/
def mskAt (i : grid0.Coords) (h1 : isBlock i) (msk : Vec F S1x4096 .f32) : Vec F S1x256 .f32 :=
  View.ld msk (Rect.unit (k0_off2 i) S1x256.size (k0_off2_inb i h1))
/-- A row block's share of the two masked column sums. -/
def partSum (adj dif : Vec F S256x4096 .f32) (fa fd : Vec F S4096x256 .bf16) (b1 b2 : Vec F S1x128 .f32) (a1 a2 : Vec F S1x1 .f32)
    (mb : Vec F S1x256 .f32) : Vec F S2x128 .f32 :=
  k0_pay23 (k0_pay13 (sc a1) b1 adj fa) (k0_pay15 b2 dif fd) (k0_pay16 b2 dif fd) (k0_pay17 (sc a2) b2 dif fd) mb
/-- The four columns of scores, from the mask, the bilinear weights, the biases, the hidden arrays and the column sums. -/
def scores (msk : Vec F S1x4096 .f32) (wb : Vec F S128x128 .f32) (bb : Vec F S1x1 .f32) (sb1 sb2 : Vec F S4096x1 .f32)
    (h1 h2 h3 h4 : Vec F S4096x128 .f32) (s : Vec F S2x128 .f32) : Vec F S4096x4 .f32 :=
  k0_pay8 (k0_pay26 msk (View.ld s (Rect.unit ![0, 0] S1x128.size inb_S2x128_S1x128_0_0)) wb)
    (k0_pay27 msk (View.ld s (Rect.unit ![1, 0] S1x128.size inb_S2x128_S1x128_1_0)) wb) (sc bb)
    (k0_pay28 msk (View.ld s (Rect.unit ![0, 0] S1x128.size inb_S2x128_S1x128_0_0)) wb (sc bb) h2 sb1)
    (k0_pay29 msk (View.ld s (Rect.unit ![1, 0] S1x128.size inb_S2x128_S1x128_1_0)) wb (sc bb) h1 sb2)
    h4 (constant S4096x1 .f32 0x00000000#32) h3
/-- An array with a block of 256 rows from row `o` replaced. -/
def putRows (o : ℕ) (blk : Vec F S256x128 .f32) (X : Vec F S4096x128 .f32) : Vec F S4096x128 .f32 := fun y =>
  if h : o ≤ (y (0 : Fin 2)).val ∧ (y (0 : Fin 2)).val < o + 256 then
    blk (Rect.unitLocal (s := S4096x128) (off := ![o, 0]) (size := S256x128.size) y (Rect.unit_rows_mem (d := S4096x128.size) y rfl rfl h))
  else X y

/-- The zero offset of a matrix, written as a function. -/
theorem hz2 : (![0, 0] : Fin 2 → ℕ) = fun _ => 0 := by funext a; fin_cases a <;> rfl

/-- A load of the whole of a matrix reads the matrix. -/
theorem ld_full {Val : EltTy → Type} {d : Fin 2 → ℕ} {e : EltTy} (inb : ∀ a : Fin 2, (![0, 0] : Fin 2 → ℕ) a + d a ≤ d a)
    (X : (⟨2, d⟩ : Shape).Idx → Val e) : View.ld X (Rect.unit (s := ⟨2, d⟩) ![0, 0] d inb) = X :=
  View.ld_unit_zero (S := ⟨2, d⟩) hz2 inb X

/-- A load of the whole of a matrix buffer after some stores reads what the stores left. -/
theorem readCov_full {κ : Kind} {sp : Space} {d : Fin 2 → ℕ} {e : EltTy} (v : View sig κ sp (⟨2, d⟩ : Shape) e)
    (inb : ∀ a : Fin 2, (![0, 0] : Fin 2 → ℕ) a + d a ≤ d a) (L : List (View.Piece (Elt F) (⟨2, d⟩ : Shape) e)) :
    v.readCov L (Rect.unit (s := ⟨2, d⟩) ![0, 0] d inb).toLoadRect = View.canon L :=
  (View.readCov_eq_canon' v L _).trans (View.ld_unit_zero (S := ⟨2, d⟩) hz2 inb (View.canon L))

end Cert.KernelIdeal.Body

end
-- ==== Proof.SpecA.lean ====
module

public import proofs.«01_k».proof.Proof.Gen.KernelIdeal.Frame
public import proofs.«01_k».proof.Proof.Gen.KernelIdeal.Skeleton
public import proofs.«01_k».proof.Proof.RunA
public import proofs.«01_k».proof.Proof.Blocks

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

section
variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (arg10 : Memref sig .tc .smem S1x1 .f32) (harg10 : arg10.IsWhole) (arg11 : Memref sig .tc .vmem S1x4096 .f32) (harg11 : arg11.IsWhole) (arg12 : Memref sig .tc .vmem S128x128 .f32) (harg12 : arg12.IsWhole) (arg13 : Memref sig .tc .smem S1x1 .f32) (harg13 : arg13.IsWhole) (arg14 : Memref sig .tc .vmem S4096x1 .f32) (harg14 : arg14.IsWhole) (arg15 : Memref sig .tc .vmem S4096x1 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x4 .f32) (harg18 : arg18.IsWhole) (arg19 : Memref sig .tc .vmem S4096x256 .bf16) (harg19 : arg19.IsWhole) (arg20 : Memref sig .tc .vmem S4096x256 .bf16) (harg20 : arg20.IsWhole) (arg21 : Memref sig .tc .vmem S4096x128 .f32) (harg21 : arg21.IsWhole) (arg22 : Memref sig .tc .vmem S4096x128 .f32) (harg22 : arg22.IsWhole) (arg23 : Memref sig .tc .vmem S4096x128 .f32) (harg23 : arg23.IsWhole) (arg24 : Memref sig .tc .vmem S4096x128 .f32) (harg24 : arg24.IsWhole) (arg25 : Memref sig .tc .vmem S2x128 .f32) (harg25 : arg25.IsWhole) (h0 : isFirst i) (h1 : isBlock i) (h3 : ¬isLater i) (h4 : ¬isLast i)
    (x1 : Vec F S256x4096 .f32) (x2 : Vec F S256x4096 .f32) (x3 : Vec F S4096x128 .f32) (x4 : Vec F S4096x128 .f32) (x5 : Vec F S128x128 .f32) (x6 : Vec F S128x128 .f32) (x7 : Vec F S1x128 .f32) (x8 : Vec F S1x128 .f32) (x9 : Vec F S1x1 .f32) (x10 : Vec F S1x1 .f32) (x11 : Vec F S1x4096 .f32) (x12 : Vec F S128x128 .f32) (x13 : Vec F S1x1 .f32) (x14 : Vec F S4096x1 .f32) (x15 : Vec F S4096x1 .f32) (x21 : Vec F S4096x128 .f32) (x22 : Vec F S4096x128 .f32) (x23 : Vec F S4096x128 .f32) (x24 : Vec F S4096x128 .f32)

/-- What the first point stores, seen from one buffer: the block of the first hidden array written out. -/
theorem piecesA16 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).1 = [⟨Rect.unit ![0, 0] S256x128.size inb_S256x128_S256x128_0_0, blkH1 x1 (feat1 x5 x3 x4) x7 x9⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

/-- What the first point stores, seen from one buffer: the block of the second hidden array written out. -/
theorem piecesA17 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.1 = [⟨Rect.unit ![0, 0] S256x128.size inb_S256x128_S256x128_0_0, blkH2 x2 (feat2 x6 x3 x4) x8 x10⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

/-- What the first point stores, seen from one buffer: the features times the first weights. -/
theorem piecesA19 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.1 = [⟨Rect.unit ![0, 128] S4096x128.size inb_S4096x256_S4096x128_0_128, k0_pay4 x5 x4⟩, ⟨Rect.unit ![0, 0] S4096x128.size inb_S4096x256_S4096x128_0_0, k0_pay3 x5 x3⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]

/-- What the first point stores, seen from one buffer: the features times the second weights. -/
theorem piecesA20 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.1 = [⟨Rect.unit ![0, 128] S4096x128.size inb_S4096x256_S4096x128_0_128, k0_pay6 x6 x4⟩, ⟨Rect.unit ![0, 0] S4096x128.size inb_S4096x256_S4096x128_0_0, k0_pay5 x6 x3⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]

/-- What the first point stores, seen from one buffer: the rows of the first hidden array kept. -/
theorem piecesA21 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.2.1 = [⟨Rect.unit (k0_off1 i) S256x128.size (k0_off1_inb i h1), blkH1 x1 (feat1 x5 x3 x4) x7 x9⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

/-- What the first point stores, seen from one buffer: the rows of the second hidden array kept. -/
theorem piecesA22 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.2.2.1 = [⟨Rect.unit (k0_off1 i) S256x128.size (k0_off1_inb i h1), blkH2 x2 (feat2 x6 x3 x4) x8 x10⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

/-- What the first point stores, seen from one buffer: the rows of the third hidden array kept. -/
theorem piecesA23 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.2.2.2.1 = [⟨Rect.unit (k0_off1 i) S256x128.size (k0_off1_inb i h1), blkH3 x1 (feat1 x5 x3 x4) x7 x9⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

/-- What the first point stores, seen from one buffer: the rows of the fourth hidden array kept. -/
theorem piecesA24 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.2.2.2.2.1 = [⟨Rect.unit (k0_off1 i) S256x128.size (k0_off1_inb i h1), blkH4 x2 (feat2 x6 x3 x4) x8 x10⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

/-- What the first point stores, seen from one buffer: the masked column sums. -/
theorem piecesA25 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.2.2.2.2.2.1 = [⟨Rect.unit ![0, 0] S2x128.size inb_S2x128_S2x128_0_0, partSum x1 x2 (feat1 x5 x3 x4) (feat2 x6 x3 x4) x7 x8 x9 x10 (mskAt i h1 x11)⟩] := by
  unfold runA
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg21.read_unread, harg22.read_unread, harg23.read_unread, harg24.read_unread, ld_full, k0_pay19, k0_pay20, k0_pay21, k0_pay24, k0_pay7, shapeCast_self]
  rfl

include h0 h1 h3 h4

/-- What the body leaves in every buffer at the first point. -/
theorem specA (o : ℕ) (ho : k0_off1 i = ![o, 0]) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (blkH1 x1 (feat1 x5 x3 x4) x7 x9) ∗ owns (c : Thread nD τ) arg17 fullShare (blkH2 x2 (feat2 x6 x3 x4) x8 x10) ∗ (∃ d, owns (c : Thread nD τ) arg18 fullShare d) ∗ owns (c : Thread nD τ) arg19 fullShare (feat1 x5 x3 x4) ∗ owns (c : Thread nD τ) arg20 fullShare (feat2 x6 x3 x4) ∗ owns (c : Thread nD τ) arg21 fullShare (putRows o (blkH1 x1 (feat1 x5 x3 x4) x7 x9) x21) ∗ owns (c : Thread nD τ) arg22 fullShare (putRows o (blkH2 x2 (feat2 x6 x3 x4) x8 x10) x22) ∗ owns (c : Thread nD τ) arg23 fullShare (putRows o (blkH3 x1 (feat1 x5 x3 x4) x7 x9) x23) ∗ owns (c : Thread nD τ) arg24 fullShare (putRows o (blkH4 x2 (feat2 x6 x3 x4) x8 x10) x24) ∗ owns (c : Thread nD τ) arg25 fullShare (partSum x1 x2 (feat1 x5 x3 x4) (feat2 x6 x3 x4) x7 x8 x9 x10 (mskAt i h1 x11))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  iintro ⟨H1, H2, H3, H4, H5, H6, H7, H8, H9, H10, H11, H12, H13, H14, H15, H16, H17, H18, H19, H20, H21, H22, H23, H24, H25, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x21 x22 x23 x24).2.2.2.2.2.2.2.2.2 E K)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  iintro ⟨H1, H2, H3, H4, H5, H6, H7, H8, H9, H10, H11, H12, H13, H14, H15, ⟨%f16, H16⟩, ⟨%f17, H17⟩, H18, ⟨%f19, H19⟩, ⟨%f20, H20⟩, H21, H22, H23, H24, ⟨%f25, H25⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns; iexists _; isplitr; swap; · iexact H16
    ipureintro; rw [piecesA16]
    exact (View.read_writes_eq_canon _ _ _ (View.cover_of_tiledL _ S256x128.size (by sl_kernel_rfl))).trans (View.canon_unit_zero hz2 _ _)
  isplitl [H17]
  · unfold owns; iexists _; isplitr; swap; · iexact H17
    ipureintro; rw [piecesA17]
    exact (View.read_writes_eq_canon _ _ _ (View.cover_of_tiledL _ S256x128.size (by sl_kernel_rfl))).trans (View.canon_unit_zero hz2 _ _)
  isplitl [H18]
  · iexact H18
  isplitl [H19]
  · unfold owns; iexists _; isplitr; swap; · iexact H19
    ipureintro; rw [piecesA19]
    exact View.read_writes_eq_canon _ _ _ (View.cover_of_tiledL _ S4096x128.size (by sl_kernel_rfl))
  isplitl [H20]
  · unfold owns; iexists _; isplitr; swap; · iexact H20
    ipureintro; rw [piecesA20]
    exact View.read_writes_eq_canon _ _ _ (View.cover_of_tiledL _ S4096x128.size (by sl_kernel_rfl))
  isplitl [H21]
  · unfold owns; iexists _; isplitr; swap; · iexact H21
    ipureintro; rw [piecesA21]
    funext y; exact (View.read_writes_cons_rows arg21.view _ (k0_off1_inb i h1) _ [] y ho rfl rfl).trans (by unfold putRows; rw [View.writes_nil, harg21.read_unread]; rfl)
  isplitl [H22]
  · unfold owns; iexists _; isplitr; swap; · iexact H22
    ipureintro; rw [piecesA22]
    funext y; exact (View.read_writes_cons_rows arg22.view _ (k0_off1_inb i h1) _ [] y ho rfl rfl).trans (by unfold putRows; rw [View.writes_nil, harg22.read_unread]; rfl)
  isplitl [H23]
  · unfold owns; iexists _; isplitr; swap; · iexact H23
    ipureintro; rw [piecesA23]
    funext y; exact (View.read_writes_cons_rows arg23.view _ (k0_off1_inb i h1) _ [] y ho rfl rfl).trans (by unfold putRows; rw [View.writes_nil, harg23.read_unread]; rfl)
  isplitl [H24]
  · unfold owns; iexists _; isplitr; swap; · iexact H24
    ipureintro; rw [piecesA24]
    funext y; exact (View.read_writes_cons_rows arg24.view _ (k0_off1_inb i h1) _ [] y ho rfl rfl).trans (by unfold putRows; rw [View.writes_nil, harg24.read_unread]; rfl)
  unfold owns; iexists _; isplitr; swap; · iexact H25
  ipureintro; rw [piecesA25]
  exact (View.read_writes_eq_canon _ _ _ (View.cover_of_tiledL _ S2x128.size (by sl_kernel_rfl))).trans (View.canon_unit_zero hz2 _ _)

end

end Cert.KernelIdeal.Body

end
-- ==== Proof.RunB.lean ====
module

public import proofs.«01_k».proof.Proof.Gen.KernelIdeal.Frame
public import proofs.«01_k».proof.Proof.Gen.KernelIdeal.Skeleton
public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body run at a later row block, with the pieces stored into each buffer found by the run. -/
def runB (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (arg10 : Memref sig .tc .smem S1x1 .f32) (harg10 : arg10.IsWhole) (arg11 : Memref sig .tc .vmem S1x4096 .f32) (harg11 : arg11.IsWhole) (arg12 : Memref sig .tc .vmem S128x128 .f32) (harg12 : arg12.IsWhole) (arg13 : Memref sig .tc .smem S1x1 .f32) (harg13 : arg13.IsWhole) (arg14 : Memref sig .tc .vmem S4096x1 .f32) (harg14 : arg14.IsWhole) (arg15 : Memref sig .tc .vmem S4096x1 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x4 .f32) (harg18 : arg18.IsWhole) (arg19 : Memref sig .tc .vmem S4096x256 .bf16) (harg19 : arg19.IsWhole) (arg20 : Memref sig .tc .vmem S4096x256 .bf16) (harg20 : arg20.IsWhole) (arg21 : Memref sig .tc .vmem S4096x128 .f32) (harg21 : arg21.IsWhole) (arg22 : Memref sig .tc .vmem S4096x128 .f32) (harg22 : arg22.IsWhole) (arg23 : Memref sig .tc .vmem S4096x128 .f32) (harg23 : arg23.IsWhole) (arg24 : Memref sig .tc .vmem S4096x128 .f32) (harg24 : arg24.IsWhole) (arg25 : Memref sig .tc .vmem S2x128 .f32) (harg25 : arg25.IsWhole) (h0 : ¬isFirst i) (h1 : isBlock i) (h3 : isLater i) (h4 : ¬isLast i)
    (x1 : Vec F S256x4096 .f32) (x2 : Vec F S256x4096 .f32) (x3 : Vec F S4096x128 .f32) (x4 : Vec F S4096x128 .f32) (x5 : Vec F S128x128 .f32) (x6 : Vec F S128x128 .f32) (x7 : Vec F S1x128 .f32) (x8 : Vec F S1x128 .f32) (x9 : Vec F S1x1 .f32) (x10 : Vec F S1x1 .f32) (x11 : Vec F S1x4096 .f32) (x12 : Vec F S128x128 .f32) (x13 : Vec F S1x1 .f32) (x14 : Vec F S4096x1 .f32) (x15 : Vec F S4096x1 .f32) (x19 : Vec F S4096x256 .bf16) (x20 : Vec F S4096x256 .bf16) (x21 : Vec F S4096x128 .f32) (x22 : Vec F S4096x128 .f32) (x23 : Vec F S4096x128 .f32) (x24 : Vec F S4096x128 .f32) (x25 : Vec F S2x128 .f32) :
    Σ' (L16 : List (View.Piece (Elt F) S256x128 .f32)), Σ' (L17 : List (View.Piece (Elt F) S256x128 .f32)), Σ' (L21 : List (View.Piece (Elt F) S4096x128 .f32)), Σ' (L22 : List (View.Piece (Elt F) S4096x128 .f32)), Σ' (L23 : List (View.Piece (Elt F) S4096x128 .f32)), Σ' (L24 : List (View.Piece (Elt F) S4096x128 .f32)), { L25 : List (View.Piece (Elt F) S2x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ d, owns (c : Thread nD τ) arg18 fullShare d) ∗ owns (c : Thread nD τ) arg19 fullShare x19 ∗ owns (c : Thread nD τ) arg20 fullShare x20 ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24) ∗ (arg25.view.loc (c : Thread nD τ) ↦[arg25.view.set]{fullShare} arg25.view.writes (Elt F) (harg25.unread x25) L25)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg19.eq_unread e19; obtain rfl := harg20.eq_unread e20; obtain rfl := harg21.eq_unread e21; obtain rfl := harg22.eq_unread e22; obtain rfl := harg23.eq_unread e23; obtain rfl := harg24.eq_unread e24; obtain rfl := harg25.eq_unread e25
    sl_exec (disch := first | sl_exact h0 | sl_exact h1 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; iexact H16
    isplitl [H17]
    · iexists _; iexact H17
    isplitl [H18]
    · iexists _, _; isplitr; swap; · iexact H18
      ipureintro; rfl
    isplitl [H19]
    · iexists _; isplitr; · ipureintro; exact harg19.read_unread _
      iexact H19
    isplitl [H20]
    · iexists _; isplitr; · ipureintro; exact harg20.read_unread _
      iexact H20
    isplitl [H21]
    · iexact H21
    isplitl [H22]
    · iexact H22
    isplitl [H23]
    · iexact H23
    isplitl [H24]
    · iexact H24
    iexact H25

end Cert.KernelIdeal.Body

end
-- ==== Proof.SpecB.lean ====
module

public import proofs.«01_k».proof.Proof.Gen.KernelIdeal.Frame
public import proofs.«01_k».proof.Proof.Gen.KernelIdeal.Skeleton
public import proofs.«01_k».proof.Proof.RunB
public import proofs.«01_k».proof.Proof.Blocks

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

section
variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (arg10 : Memref sig .tc .smem S1x1 .f32) (harg10 : arg10.IsWhole) (arg11 : Memref sig .tc .vmem S1x4096 .f32) (harg11 : arg11.IsWhole) (arg12 : Memref sig .tc .vmem S128x128 .f32) (harg12 : arg12.IsWhole) (arg13 : Memref sig .tc .smem S1x1 .f32) (harg13 : arg13.IsWhole) (arg14 : Memref sig .tc .vmem S4096x1 .f32) (harg14 : arg14.IsWhole) (arg15 : Memref sig .tc .vmem S4096x1 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x4 .f32) (harg18 : arg18.IsWhole) (arg19 : Memref sig .tc .vmem S4096x256 .bf16) (harg19 : arg19.IsWhole) (arg20 : Memref sig .tc .vmem S4096x256 .bf16) (harg20 : arg20.IsWhole) (arg21 : Memref sig .tc .vmem S4096x128 .f32) (harg21 : arg21.IsWhole) (arg22 : Memref sig .tc .vmem S4096x128 .f32) (harg22 : arg22.IsWhole) (arg23 : Memref sig .tc .vmem S4096x128 .f32) (harg23 : arg23.IsWhole) (arg24 : Memref sig .tc .vmem S4096x128 .f32) (harg24 : arg24.IsWhole) (arg25 : Memref sig .tc .vmem S2x128 .f32) (harg25 : arg25.IsWhole) (h0 : ¬isFirst i) (h1 : isBlock i) (h3 : isLater i) (h4 : ¬isLast i)
    (x1 : Vec F S256x4096 .f32) (x2 : Vec F S256x4096 .f32) (x3 : Vec F S4096x128 .f32) (x4 : Vec F S4096x128 .f32) (x5 : Vec F S128x128 .f32) (x6 : Vec F S128x128 .f32) (x7 : Vec F S1x128 .f32) (x8 : Vec F S1x128 .f32) (x9 : Vec F S1x1 .f32) (x10 : Vec F S1x1 .f32) (x11 : Vec F S1x4096 .f32) (x12 : Vec F S128x128 .f32) (x13 : Vec F S1x1 .f32) (x14 : Vec F S4096x1 .f32) (x15 : Vec F S4096x1 .f32) (x19 : Vec F S4096x256 .bf16) (x20 : Vec F S4096x256 .bf16) (x21 : Vec F S4096x128 .f32) (x22 : Vec F S4096x128 .f32) (x23 : Vec F S4096x128 .f32) (x24 : Vec F S4096x128 .f32) (x25 : Vec F S2x128 .f32)

/-- What a later row block stores, seen from one buffer: the block of the first hidden array written out. -/
theorem piecesB16 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).1 = [⟨Rect.unit ![0, 0] S256x128.size inb_S256x128_S256x128_0_0, blkH1 x1 x19 x7 x9⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

/-- What a later row block stores, seen from one buffer: the block of the second hidden array written out. -/
theorem piecesB17 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.1 = [⟨Rect.unit ![0, 0] S256x128.size inb_S256x128_S256x128_0_0, blkH2 x2 x20 x8 x10⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

/-- What a later row block stores, seen from one buffer: the rows of the first hidden array kept. -/
theorem piecesB21 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.2.1 = [⟨Rect.unit (k0_off1 i) S256x128.size (k0_off1_inb i h1), blkH1 x1 x19 x7 x9⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

/-- What a later row block stores, seen from one buffer: the rows of the second hidden array kept. -/
theorem piecesB22 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.2.2.1 = [⟨Rect.unit (k0_off1 i) S256x128.size (k0_off1_inb i h1), blkH2 x2 x20 x8 x10⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

/-- What a later row block stores, seen from one buffer: the rows of the third hidden array kept. -/
theorem piecesB23 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.2.2.2.1 = [⟨Rect.unit (k0_off1 i) S256x128.size (k0_off1_inb i h1), blkH3 x1 x19 x7 x9⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

/-- What a later row block stores, seen from one buffer: the rows of the fourth hidden array kept. -/
theorem piecesB24 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.2.2.2.2.1 = [⟨Rect.unit (k0_off1 i) S256x128.size (k0_off1_inb i h1), blkH4 x2 x20 x8 x10⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

/-- What a later row block stores, seen from one buffer: the masked column sums. -/
theorem piecesB25 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.2.2.2.2.2.1 = [⟨Rect.unit ![0, 0] S2x128.size inb_S2x128_S2x128_0_0, addf x25 (partSum x1 x2 x19 x20 x7 x8 x9 x10 (mskAt i h1 x11))⟩] := by
  unfold runB
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg19.read_unread, harg20.read_unread, harg21.read_unread, harg22.read_unread, harg23.read_unread, harg24.read_unread, harg25.read_unread, ld_full, k0_pay19, k0_pay20, k0_pay21, k0_pay24, k0_pay7, shapeCast_self]
  rfl

include h0 h1 h3 h4

/-- What the body leaves in every buffer at a later row block. -/
theorem specB (o : ℕ) (ho : k0_off1 i = ![o, 0]) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (blkH1 x1 x19 x7 x9) ∗ owns (c : Thread nD τ) arg17 fullShare (blkH2 x2 x20 x8 x10) ∗ (∃ d, owns (c : Thread nD τ) arg18 fullShare d) ∗ owns (c : Thread nD τ) arg19 fullShare x19 ∗ owns (c : Thread nD τ) arg20 fullShare x20 ∗ owns (c : Thread nD τ) arg21 fullShare (putRows o (blkH1 x1 x19 x7 x9) x21) ∗ owns (c : Thread nD τ) arg22 fullShare (putRows o (blkH2 x2 x20 x8 x10) x22) ∗ owns (c : Thread nD τ) arg23 fullShare (putRows o (blkH3 x1 x19 x7 x9) x23) ∗ owns (c : Thread nD τ) arg24 fullShare (putRows o (blkH4 x2 x20 x8 x10) x24) ∗ owns (c : Thread nD τ) arg25 fullShare (addf x25 (partSum x1 x2 x19 x20 x7 x8 x9 x10 (mskAt i h1 x11)))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  iintro ⟨H1, H2, H3, H4, H5, H6, H7, H8, H9, H10, H11, H12, H13, H14, H15, H16, H17, H18, H19, H20, H21, H22, H23, H24, H25, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h3 h4 x1 x2 x3 x4 x5 x6 x7 x8 x9 x10 x11 x12 x13 x14 x15 x19 x20 x21 x22 x23 x24 x25).2.2.2.2.2.2.2 E K)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  iintro ⟨H1, H2, H3, H4, H5, H6, H7, H8, H9, H10, H11, H12, H13, H14, H15, ⟨%f16, H16⟩, ⟨%f17, H17⟩, H18, H19, H20, H21, H22, H23, H24, H25⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns; iexists _; isplitr; swap; · iexact H16
    ipureintro; rw [piecesB16]
    exact (View.read_writes_eq_canon _ _ _ (View.cover_of_tiledL _ S256x128.size (by sl_kernel_rfl))).trans (View.canon_unit_zero hz2 _ _)
  isplitl [H17]
  · unfold owns; iexists _; isplitr; swap; · iexact H17
    ipureintro; rw [piecesB17]
    exact (View.read_writes_eq_canon _ _ _ (View.cover_of_tiledL _ S256x128.size (by sl_kernel_rfl))).trans (View.canon_unit_zero hz2 _ _)
  isplitl [H18]
  · iexact H18
  isplitl [H19]
  · iexact H19
  isplitl [H20]
  · iexact H20
  isplitl [H21]
  · unfold owns; iexists _; isplitr; swap; · iexact H21
    ipureintro; rw [piecesB21]
    funext y; exact (View.read_writes_cons_rows arg21.view _ (k0_off1_inb i h1) _ [] y ho rfl rfl).trans (by unfold putRows; rw [View.writes_nil, harg21.read_unread]; rfl)
  isplitl [H22]
  · unfold owns; iexists _; isplitr; swap; · iexact H22
    ipureintro; rw [piecesB22]
    funext y; exact (View.read_writes_cons_rows arg22.view _ (k0_off1_inb i h1) _ [] y ho rfl rfl).trans (by unfold putRows; rw [View.writes_nil, harg22.read_unread]; rfl)
  isplitl [H23]
  · unfold owns; iexists _; isplitr; swap; · iexact H23
    ipureintro; rw [piecesB23]
    funext y; exact (View.read_writes_cons_rows arg23.view _ (k0_off1_inb i h1) _ [] y ho rfl rfl).trans (by unfold putRows; rw [View.writes_nil, harg23.read_unread]; rfl)
  isplitl [H24]
  · unfold owns; iexists _; isplitr; swap; · iexact H24
    ipureintro; rw [piecesB24]
    funext y; exact (View.read_writes_cons_rows arg24.view _ (k0_off1_inb i h1) _ [] y ho rfl rfl).trans (by unfold putRows; rw [View.writes_nil, harg24.read_unread]; rfl)
  unfold owns; iexists _; isplitr; swap; · iexact H25
  ipureintro; rw [piecesB25]
  exact (View.read_writes_eq_canon _ _ _ (View.cover_of_tiledL _ S2x128.size (by sl_kernel_rfl))).trans (View.canon_unit_zero hz2 _ _)

end

end Cert.KernelIdeal.Body

end
-- ==== Proof.RunC.lean ====
module

public import proofs.«01_k».proof.Proof.Gen.KernelIdeal.Frame
public import proofs.«01_k».proof.Proof.Gen.KernelIdeal.Skeleton
public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body run at the last point, with the pieces stored into each buffer found by the run. -/
def runC (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (arg10 : Memref sig .tc .smem S1x1 .f32) (harg10 : arg10.IsWhole) (arg11 : Memref sig .tc .vmem S1x4096 .f32) (harg11 : arg11.IsWhole) (arg12 : Memref sig .tc .vmem S128x128 .f32) (harg12 : arg12.IsWhole) (arg13 : Memref sig .tc .smem S1x1 .f32) (harg13 : arg13.IsWhole) (arg14 : Memref sig .tc .vmem S4096x1 .f32) (harg14 : arg14.IsWhole) (arg15 : Memref sig .tc .vmem S4096x1 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x4 .f32) (harg18 : arg18.IsWhole) (arg19 : Memref sig .tc .vmem S4096x256 .bf16) (harg19 : arg19.IsWhole) (arg20 : Memref sig .tc .vmem S4096x256 .bf16) (harg20 : arg20.IsWhole) (arg21 : Memref sig .tc .vmem S4096x128 .f32) (harg21 : arg21.IsWhole) (arg22 : Memref sig .tc .vmem S4096x128 .f32) (harg22 : arg22.IsWhole) (arg23 : Memref sig .tc .vmem S4096x128 .f32) (harg23 : arg23.IsWhole) (arg24 : Memref sig .tc .vmem S4096x128 .f32) (harg24 : arg24.IsWhole) (arg25 : Memref sig .tc .vmem S2x128 .f32) (harg25 : arg25.IsWhole) (h0 : ¬isFirst i) (h1 : ¬isBlock i) (h4 : isLast i)
    (x1 : Vec F S256x4096 .f32) (x2 : Vec F S256x4096 .f32) (x3 : Vec F S4096x128 .f32) (x4 : Vec F S4096x128 .f32) (x5 : Vec F S128x128 .f32) (x6 : Vec F S128x128 .f32) (x7 : Vec F S1x128 .f32) (x8 : Vec F S1x128 .f32) (x9 : Vec F S1x1 .f32) (x10 : Vec F S1x1 .f32) (x11 : Vec F S1x4096 .f32) (x12 : Vec F S128x128 .f32) (x13 : Vec F S1x1 .f32) (x14 : Vec F S4096x1 .f32) (x15 : Vec F S4096x1 .f32) (x16 : Vec F S256x128 .f32) (x17 : Vec F S256x128 .f32) (x21 : Vec F S4096x128 .f32) (x22 : Vec F S4096x128 .f32) (x23 : Vec F S4096x128 .f32) (x24 : Vec F S4096x128 .f32) (x25 : Vec F S2x128 .f32) :
    { L18 : List (View.Piece (Elt F) S4096x4 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L18) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0__fused_kernel_eq_skeleton]; unfold cc0__fused_kernel_skel
    simp only [k0_part3_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%d18, %f18, -, H18⟩, ⟨%d19, %f19, -, H19⟩, ⟨%d20, %f20, -, H20⟩, ⟨%f21, %e21, H21⟩, ⟨%f22, %e22, H22⟩, ⟨%f23, %e23, H23⟩, ⟨%f24, %e24, H24⟩, ⟨%f25, %e25, H25⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17; obtain rfl := harg21.eq_unread e21; obtain rfl := harg22.eq_unread e22; obtain rfl := harg23.eq_unread e23; obtain rfl := harg24.eq_unread e24; obtain rfl := harg25.eq_unread e25
    sl_exec (disch := first | sl_exact h0 | sl_exact h1 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; iexact H18
    isplitl [H19]
    · iexists _, _; isplitr; swap; · iexact H19
      ipureintro; rfl
    isplitl [H20]
    · iexists _, _; isplitr; swap; · iexact H20
      ipureintro; rfl
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    iexists _; isplitr; · ipureintro; exact harg25.read_unread _
    iexact H25

end Cert.KernelIdeal.Body

end
-- ==== Proof.SpecC.lean ====
module

public import proofs.«01_k».proof.Proof.Gen.KernelIdeal.Frame
public import proofs.«01_k».proof.Proof.Gen.KernelIdeal.Skeleton
public import proofs.«01_k».proof.Proof.RunC
public import proofs.«01_k».proof.Proof.Blocks

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

section
variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .smem S1x1 .f32) (harg9 : arg9.IsWhole) (arg10 : Memref sig .tc .smem S1x1 .f32) (harg10 : arg10.IsWhole) (arg11 : Memref sig .tc .vmem S1x4096 .f32) (harg11 : arg11.IsWhole) (arg12 : Memref sig .tc .vmem S128x128 .f32) (harg12 : arg12.IsWhole) (arg13 : Memref sig .tc .smem S1x1 .f32) (harg13 : arg13.IsWhole) (arg14 : Memref sig .tc .vmem S4096x1 .f32) (harg14 : arg14.IsWhole) (arg15 : Memref sig .tc .vmem S4096x1 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x4 .f32) (harg18 : arg18.IsWhole) (arg19 : Memref sig .tc .vmem S4096x256 .bf16) (harg19 : arg19.IsWhole) (arg20 : Memref sig .tc .vmem S4096x256 .bf16) (harg20 : arg20.IsWhole) (arg21 : Memref sig .tc .vmem S4096x128 .f32) (harg21 : arg21.IsWhole) (arg22 : Memref sig .tc .vmem S4096x128 .f32) (harg22 : arg22.IsWhole) (arg23 : Memref sig .tc .vmem S4096x128 .f32) (harg23 : arg23.IsWhole) (arg24 : Memref sig .tc .vmem S4096x128 .f32) (harg24 : arg24.IsWhole) (arg25 : Memref sig .tc .vmem S2x128 .f32) (harg25 : arg25.IsWhole) (h0 : ¬isFirst i) (h1 : ¬isBlock i) (h4 : isLast i)
    (x1 : Vec F S256x4096 .f32) (x2 : Vec F S256x4096 .f32) (x3 : Vec F S4096x128 .f32) (x4 : Vec F S4096x128 .f32) (x5 : Vec F S128x128 .f32) (x6 : Vec F S128x128 .f32) (x7 : Vec F S1x128 .f32) (x8 : Vec F S1x128 .f32) (x9 : Vec F S1x1 .f32) (x10 : Vec F S1x1 .f32) (x11 : Vec F S1x4096 .f32) (x12 : Vec F S128x128 .f32) (x13 : Vec F S1x1 .f32) (x14 : Vec F S4096x1 .f32) (x15 : Vec F S4096x1 .f32) (x16 : Vec F S256x128 .f32) (x17 : Vec F S256x128 .f32) (x21 : Vec F S4096x128 .f32) (x22 : Vec F S4096x128 .f32) (x23 : Vec F S4096x128 .f32) (x24 : Vec F S4096x128 .f32) (x25 : Vec F S2x128 .f32)

/-- What the last point stores, seen from one buffer: the scores written out. -/
theorem piecesC18 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h4 x1 x2 x3 x4 x5 x6 x7 x8 x9 x10 x11 x12 x13 x14 x15 x16 x17 x21 x22 x23 x24 x25).1 = [⟨Rect.unit ![0, 0] S4096x4.size inb_S4096x4_S4096x4_0_0, scores x11 x12 x13 x14 x15 x21 x22 x23 x24 x25⟩] := by
  unfold runC
  dsimp only
  sl_unfold_words
  simp only [View.readAt_eq_ld, readCov_full, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg21.read_unread, harg22.read_unread, harg23.read_unread, harg24.read_unread, harg25.read_unread, ld_full, k0_pay19, k0_pay20, k0_pay21, k0_pay24, k0_pay7, shapeCast_self]
  rfl

include h0 h1 h4

/-- What the body leaves in every buffer at the last point. -/
theorem specC  (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (scores x11 x12 x13 x14 x15 x21 x22 x23 x24 x25) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  iintro ⟨H1, H2, H3, H4, H5, H6, H7, H8, H9, H10, H11, H12, H13, H14, H15, H16, H17, H18, H19, H20, H21, H22, H23, H24, H25, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 h0 h1 h4 x1 x2 x3 x4 x5 x6 x7 x8 x9 x10 x11 x12 x13 x14 x15 x16 x17 x21 x22 x23 x24 x25).2 E K)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  iintro ⟨H1, H2, H3, H4, H5, H6, H7, H8, H9, H10, H11, H12, H13, H14, H15, H16, H17, ⟨%f18, H18⟩, H19, H20, H21, H22, H23, H24, H25⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · unfold owns; iexists _; isplitr; swap; · iexact H18
    ipureintro; rw [piecesC18]
    exact (View.read_writes_eq_canon _ _ _ (View.cover_of_tiledL _ S4096x4.size (by sl_kernel_rfl))).trans (View.canon_unit_zero hz2 _ _)
  isplitl [H19]
  · iexact H19
  isplitl [H20]
  · iexact H20
  isplitl [H21]
  · iexact H21
  isplitl [H22]
  · iexact H22
  isplitl [H23]
  · iexact H23
  isplitl [H24]
  · iexact H24
  iexact H25

end

end Cert.KernelIdeal.Body

end
-- ==== Proof.Data.lean ====
module

public import proofs.«01_k».proof.Proof.Gen.KernelIdeal.Frame
public import proofs.«01_k».proof.Proof.Gen.KernelIdeal.Skeleton
public import proofs.«01_k».proof.Proof.SpecA
public import proofs.«01_k».proof.Proof.SpecB
public import proofs.«01_k».proof.Proof.SpecC

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body, point by point -/

/-- The first condition holds at point 0 alone. -/
theorem first_iff : ∀ t : Fin cfg0.N, isFirst (grid0.coords t) ↔ t.val = 0 :=
  (by decide +kernel : ∀ t : Fin grid0.N, isFirst (grid0.coords t) ↔ t.val = 0)
/-- The second condition holds at the first sixteen points. -/
theorem block_iff : ∀ t : Fin cfg0.N, isBlock (grid0.coords t) ↔ t.val < 16 :=
  (by decide +kernel : ∀ t : Fin grid0.N, isBlock (grid0.coords t) ↔ t.val < 16)
/-- The fourth condition holds from point 1 on. -/
theorem later_iff : ∀ t : Fin cfg0.N, isLater (grid0.coords t) ↔ 1 ≤ t.val :=
  (by decide +kernel : ∀ t : Fin grid0.N, isLater (grid0.coords t) ↔ 1 ≤ t.val)
/-- The fifth condition holds at point 16 alone. -/
theorem last_iff : ∀ t : Fin cfg0.N, isLast (grid0.coords t) ↔ t.val = 16 :=
  (by decide +kernel : ∀ t : Fin grid0.N, isLast (grid0.coords t) ↔ t.val = 16)
/-- The rows that a point stores its hidden blocks in start at 256 times its number. -/
theorem off1_eq : ∀ t : Fin cfg0.N, k0_off1 (grid0.coords t) = ![256 * t.val, 0] :=
  (by decide +kernel : ∀ t : Fin grid0.N, k0_off1 (grid0.coords t) = ![256 * t.val, 0])
/-- The part of the mask that a point reads starts at 256 times its number. -/
theorem off2_eq : ∀ t : Fin cfg0.N, k0_off2 (grid0.coords t) = ![0, 256 * t.val] :=
  (by decide +kernel : ∀ t : Fin grid0.N, k0_off2 (grid0.coords t) = ![0, 256 * t.val])
/-- The first hidden array's buffer is written back after every point but the sixteenth, whose block the last point keeps. -/
theorem flush15 : ∀ t : Fin cfg0.N, (cfg0.win 15).flush t = true ↔ t.val ≠ 15 :=
  (by decide +kernel : ∀ t : Fin grid0.N, (cfg0.win 15).flush t = true ↔ t.val ≠ 15)
/-- The second hidden array's buffer is written back after every point but the sixteenth, whose block the last point keeps. -/
theorem flush16 : ∀ t : Fin cfg0.N, (cfg0.win 16).flush t = true ↔ t.val ≠ 15 :=
  (by decide +kernel : ∀ t : Fin grid0.N, (cfg0.win 16).flush t = true ↔ t.val ≠ 15)
/-- The first hidden array's buffer is never filled from memory. -/
theorem fetch15 : ∀ t : Fin cfg0.N, (cfg0.win 15).fetch t = false :=
  (by decide +kernel : ∀ t : Fin grid0.N, (cfg0.win 15).fetch t = false)
/-- The second hidden array's buffer is never filled from memory. -/
theorem fetch16 : ∀ t : Fin cfg0.N, (cfg0.win 16).fetch t = false :=
  (by decide +kernel : ∀ t : Fin grid0.N, (cfg0.win 16).fetch t = false)
/-- The scores' buffer is never filled from memory. -/
theorem fetch17 : ∀ t : Fin cfg0.N, (cfg0.win 17).fetch t = false :=
  (by decide +kernel : ∀ t : Fin grid0.N, (cfg0.win 17).fetch t = false)
/-- Only the last point leaves the first hidden array's buffer alone. -/
theorem idle15 : ∀ t : Fin cfg0.N, cfg0.idle 15 (grid0.coords t) = decide (t.val = 16) :=
  (by decide +kernel : ∀ t : Fin grid0.N, idle0 15 (grid0.coords t) = decide (t.val = 16))
/-- Only the last point leaves the second hidden array's buffer alone. -/
theorem idle16 : ∀ t : Fin cfg0.N, cfg0.idle 16 (grid0.coords t) = decide (t.val = 16) :=
  (by decide +kernel : ∀ t : Fin grid0.N, idle0 16 (grid0.coords t) = decide (t.val = 16))
/-- Every point but the last leaves the scores' buffer alone. -/
theorem idle17 : ∀ t : Fin cfg0.N, cfg0.idle 17 (grid0.coords t) = decide (t.val ≠ 16) :=
  (by decide +kernel : ∀ t : Fin grid0.N, idle0 17 (grid0.coords t) = decide (t.val ≠ 16))

/-- The first point. -/
abbrev t0 : Fin cfg0.N := ⟨0, by rw [show cfg0.N = 17 from N_0]; decide⟩
/-- The point of row block `n`. -/
abbrev pt (n : ℕ) (h : n < 16) : Fin cfg0.N := ⟨n, by rw [show cfg0.N = 17 from N_0]; omega⟩
/-- A point with a row block meets the second condition. -/
theorem pt_block (n : ℕ) (h : n < 16) : isBlock (grid0.coords (pt n h)) := (block_iff _).mpr h

/-! ## The values the launch carries from point to point -/

/-- The features times the first weights, as computed at the first point. -/
def FA (c : Dev nD) : Vec F S4096x256 .bf16 := feat1 (iblk m c 4 t0) (iblk m c 2 t0) (iblk m c 3 t0)
/-- The features times the second weights. -/
def FD (c : Dev nD) : Vec F S4096x256 .bf16 := feat2 (iblk m c 5 t0) (iblk m c 2 t0) (iblk m c 3 t0)
/-- The row block of the first hidden array (first features, adjacency) at a point. -/
def hb1 (c : Dev nD) (t : Fin cfg0.N) : Vec F S256x128 .f32 := blkH1 (iblk m c 0 t) (FA m c) (iblk m c 6 t) (iblk m c 8 t)
/-- The row block of the second hidden array (first features, diffusion) at a point. -/
def hb2 (c : Dev nD) (t : Fin cfg0.N) : Vec F S256x128 .f32 := blkH2 (iblk m c 1 t) (FD m c) (iblk m c 7 t) (iblk m c 9 t)
/-- The row block of the third hidden array (second features, adjacency) at a point. -/
def hb3 (c : Dev nD) (t : Fin cfg0.N) : Vec F S256x128 .f32 := blkH3 (iblk m c 0 t) (FA m c) (iblk m c 6 t) (iblk m c 8 t)
/-- The row block of the fourth hidden array (second features, diffusion) at a point. -/
def hb4 (c : Dev nD) (t : Fin cfg0.N) : Vec F S256x128 .f32 := blkH4 (iblk m c 1 t) (FD m c) (iblk m c 7 t) (iblk m c 9 t)
/-- Sixteen row blocks one below the other. -/
def stack (B : Fin cfg0.N → Vec F S256x128 .f32) : Vec F S4096x128 .f32 := fun y =>
  B (pt ((y (0 : Fin 2)).val / 256) (by have : (y (0 : Fin 2)).val < 4096 := (y (0 : Fin 2)).isLt; omega))
    (fun a : Fin 2 => match a with
      | ⟨0, _⟩ => ⟨(y (0 : Fin 2)).val % 256, Nat.mod_lt _ (by decide)⟩
      | ⟨1, _⟩ => ⟨(y (1 : Fin 2)).val, (y (1 : Fin 2)).isLt⟩)
/-- An array whose first `n` row blocks are those of `H`, the rest as in `d`. -/
def fill (n : ℕ) (H d : Vec F S4096x128 .f32) : Vec F S4096x128 .f32 := fun y =>
  if (y (0 : Fin 2)).val < 256 * n then H y else d y
/-- A point's share of the masked column sums. -/
def part (c : Dev nD) (n : ℕ) (h : n < 16) : Vec F S2x128 .f32 :=
  partSum (iblk m c 0 (pt n h)) (iblk m c 1 (pt n h)) (FA m c) (FD m c) (iblk m c 6 (pt n h)) (iblk m c 7 (pt n h))
    (iblk m c 8 (pt n h)) (iblk m c 9 (pt n h)) (mskAt (grid0.coords (pt n h)) (pt_block n h) (iblk m c 10 (pt n h)))
/-- The masked column sums after row block `n`. -/
def sumAt (c : Dev nD) : (n : ℕ) → n < 16 → Vec F S2x128 .f32
  | 0, h => part m c 0 h
  | n + 1, h => addf (sumAt c n (by omega)) (part m c (n + 1) h)
/-- The scores the last point computes. -/
def scoresAt (c : Dev nD) (t : Fin cfg0.N) : Vec F S4096x4 .f32 :=
  scores (iblk m c 10 t) (iblk m c 11 t) (iblk m c 12 t) (iblk m c 13 t) (iblk m c 14 t)
    (stack (hb1 m c)) (stack (hb2 m c)) (stack (hb3 m c)) (stack (hb4 m c)) (sumAt m c 15 (by decide))
/-- The point whose row block an output buffer holds after point `t`. -/
abbrev cap (t : Fin cfg0.N) : Fin cfg0.N := pt (min t.val 15) (by omega)

/-- With no block filled in, the array is as before. -/
theorem fill_zero (H d : Vec F S4096x128 .f32) : fill 0 H d = d := by
  funext y; unfold fill; rw [if_neg (by omega)]
/-- With all sixteen blocks filled in, nothing is left of what was before. -/
theorem fill_full (n : ℕ) (hn : 16 ≤ n) (H d : Vec F S4096x128 .f32) : fill n H d = H := by
  funext y; unfold fill
  have : (y (0 : Fin 2)).val < 4096 := (y (0 : Fin 2)).isLt
  rw [if_pos (by omega)]
/-- Putting row block `n` after the first `n` gives the first `n + 1`. -/
theorem putRows_fill (B : Fin cfg0.N → Vec F S256x128 .f32) (d : Vec F S4096x128 .f32) (t : Fin cfg0.N) (ht : t.val < 16) :
    putRows (256 * t.val) (B t) (fill t.val (stack B) d) = fill (t.val + 1) (stack B) d := by
  funext y
  have hy : (y (0 : Fin 2)).val < 4096 := (y (0 : Fin 2)).isLt
  unfold putRows
  by_cases h : 256 * t.val ≤ (y (0 : Fin 2)).val ∧ (y (0 : Fin 2)).val < 256 * t.val + 256
  · rw [dif_pos h]
    unfold fill
    rw [if_pos (by omega)]
    unfold stack
    have e : pt ((y (0 : Fin 2)).val / 256) (by omega) = t := Fin.ext (by show (y (0 : Fin 2)).val / 256 = t.val; omega)
    rw [e]
    congr 1
    funext a
    apply Fin.ext
    rw [Rect.unitLocal_val]
    match a with
    | ⟨0, _⟩ => show (y (0 : Fin 2)).val - 256 * t.val = (y (0 : Fin 2)).val % 256; omega
    | ⟨1, _⟩ => show (y (1 : Fin 2)).val - 0 = (y (1 : Fin 2)).val; omega
  · rw [dif_neg h]
    unfold fill
    by_cases h' : (y (0 : Fin 2)).val < 256 * t.val
    · rw [if_pos h', if_pos (by omega)]
    · rw [if_neg h', if_neg (by omega)]

/-! ## The buffers -/

/-- The buffer of the adjacency matrix at a point. -/
abbrev ms0 (t : Fin cfg0.N) : Memref sig .tc .vmem S256x4096 .f32 := win0_0.stage (cfg0.slots t 0)
/-- It is a whole buffer. -/
abbrev hs0 (t : Fin cfg0.N) : (ms0 t).IsWhole := hstage0_0 ((cfg0.slots t 0).cast nbuf0_0)
/-- The buffer of the diffusion matrix at a point. -/
abbrev ms1 (t : Fin cfg0.N) : Memref sig .tc .vmem S256x4096 .f32 := win0_1.stage (cfg0.slots t 1)
/-- It is a whole buffer. -/
abbrev hs1 (t : Fin cfg0.N) : (ms1 t).IsWhole := hstage0_1 ((cfg0.slots t 1).cast nbuf0_1)
/-- The buffer of the first node features at a point. -/
abbrev ms2 (t : Fin cfg0.N) : Memref sig .tc .vmem S4096x128 .f32 := win0_2.stage (cfg0.slots t 2)
/-- It is a whole buffer. -/
abbrev hs2 (t : Fin cfg0.N) : (ms2 t).IsWhole := hstage0_2 ((cfg0.slots t 2).cast nbuf0_2)
/-- The buffer of the second node features at a point. -/
abbrev ms3 (t : Fin cfg0.N) : Memref sig .tc .vmem S4096x128 .f32 := win0_3.stage (cfg0.slots t 3)
/-- It is a whole buffer. -/
abbrev hs3 (t : Fin cfg0.N) : (ms3 t).IsWhole := hstage0_3 ((cfg0.slots t 3).cast nbuf0_3)
/-- The buffer of the first weights at a point. -/
abbrev ms4 (t : Fin cfg0.N) : Memref sig .tc .vmem S128x128 .f32 := win0_4.stage (cfg0.slots t 4)
/-- It is a whole buffer. -/
abbrev hs4 (t : Fin cfg0.N) : (ms4 t).IsWhole := hstage0_4 ((cfg0.slots t 4).cast nbuf0_4)
/-- The buffer of the second weights at a point. -/
abbrev ms5 (t : Fin cfg0.N) : Memref sig .tc .vmem S128x128 .f32 := win0_5.stage (cfg0.slots t 5)
/-- It is a whole buffer. -/
abbrev hs5 (t : Fin cfg0.N) : (ms5 t).IsWhole := hstage0_5 ((cfg0.slots t 5).cast nbuf0_5)
/-- The buffer of the first bias at a point. -/
abbrev ms6 (t : Fin cfg0.N) : Memref sig .tc .vmem S1x128 .f32 := win0_6.stage (cfg0.slots t 6)
/-- It is a whole buffer. -/
abbrev hs6 (t : Fin cfg0.N) : (ms6 t).IsWhole := hstage0_6 ((cfg0.slots t 6).cast nbuf0_6)
/-- The buffer of the second bias at a point. -/
abbrev ms7 (t : Fin cfg0.N) : Memref sig .tc .vmem S1x128 .f32 := win0_7.stage (cfg0.slots t 7)
/-- It is a whole buffer. -/
abbrev hs7 (t : Fin cfg0.N) : (ms7 t).IsWhole := hstage0_7 ((cfg0.slots t 7).cast nbuf0_7)
/-- The buffer of the first slope at a point. -/
abbrev ms8 (t : Fin cfg0.N) : Memref sig .tc .smem S1x1 .f32 := win0_8.stage (cfg0.slots t 8)
/-- It is a whole buffer. -/
abbrev hs8 (t : Fin cfg0.N) : (ms8 t).IsWhole := hstage0_8 ((cfg0.slots t 8).cast nbuf0_8)
/-- The buffer of the second slope at a point. -/
abbrev ms9 (t : Fin cfg0.N) : Memref sig .tc .smem S1x1 .f32 := win0_9.stage (cfg0.slots t 9)
/-- It is a whole buffer. -/
abbrev hs9 (t : Fin cfg0.N) : (ms9 t).IsWhole := hstage0_9 ((cfg0.slots t 9).cast nbuf0_9)
/-- The buffer of the mask at a point. -/
abbrev ms10 (t : Fin cfg0.N) : Memref sig .tc .vmem S1x4096 .f32 := win0_10.stage (cfg0.slots t 10)
/-- It is a whole buffer. -/
abbrev hs10 (t : Fin cfg0.N) : (ms10 t).IsWhole := hstage0_10 ((cfg0.slots t 10).cast nbuf0_10)
/-- The buffer of the bilinear weight at a point. -/
abbrev ms11 (t : Fin cfg0.N) : Memref sig .tc .vmem S128x128 .f32 := win0_11.stage (cfg0.slots t 11)
/-- It is a whole buffer. -/
abbrev hs11 (t : Fin cfg0.N) : (ms11 t).IsWhole := hstage0_11 ((cfg0.slots t 11).cast nbuf0_11)
/-- The buffer of the bilinear bias at a point. -/
abbrev ms12 (t : Fin cfg0.N) : Memref sig .tc .smem S1x1 .f32 := win0_12.stage (cfg0.slots t 12)
/-- It is a whole buffer. -/
abbrev hs12 (t : Fin cfg0.N) : (ms12 t).IsWhole := hstage0_12 ((cfg0.slots t 12).cast nbuf0_12)
/-- The buffer of the first sample bias at a point. -/
abbrev ms13 (t : Fin cfg0.N) : Memref sig .tc .vmem S4096x1 .f32 := win0_13.stage (cfg0.slots t 13)
/-- It is a whole buffer. -/
abbrev hs13 (t : Fin cfg0.N) : (ms13 t).IsWhole := hstage0_13 ((cfg0.slots t 13).cast nbuf0_13)
/-- The buffer of the second sample bias at a point. -/
abbrev ms14 (t : Fin cfg0.N) : Memref sig .tc .vmem S4096x1 .f32 := win0_14.stage (cfg0.slots t 14)
/-- It is a whole buffer. -/
abbrev hs14 (t : Fin cfg0.N) : (ms14 t).IsWhole := hstage0_14 ((cfg0.slots t 14).cast nbuf0_14)
/-- The buffer of the first hidden array at a point. -/
abbrev ms15 (t : Fin cfg0.N) : Memref sig .tc .vmem S256x128 .f32 := win0_15.stage (cfg0.slots t 15)
/-- It is a whole buffer. -/
abbrev hs15 (t : Fin cfg0.N) : (ms15 t).IsWhole := hstage0_15 ((cfg0.slots t 15).cast nbuf0_15)
/-- The buffer of the second hidden array at a point. -/
abbrev ms16 (t : Fin cfg0.N) : Memref sig .tc .vmem S256x128 .f32 := win0_16.stage (cfg0.slots t 16)
/-- It is a whole buffer. -/
abbrev hs16 (t : Fin cfg0.N) : (ms16 t).IsWhole := hstage0_16 ((cfg0.slots t 16).cast nbuf0_16)
/-- The buffer of the scores at a point. -/
abbrev ms17 (t : Fin cfg0.N) : Memref sig .tc .vmem S4096x4 .f32 := win0_17.stage (cfg0.slots t 17)
/-- It is a whole buffer. -/
abbrev hs17 (t : Fin cfg0.N) : (ms17 t).IsWhole := hstage0_17 ((cfg0.slots t 17).cast nbuf0_17)
/-- The buffer that keeps the features times the first weights. -/
abbrev sm0 : Memref sig .tc .vmem S4096x256 .bf16 := Memref.whole cc0_scratch0
/-- The buffer that keeps the features times the second weights. -/
abbrev sm1 : Memref sig .tc .vmem S4096x256 .bf16 := Memref.whole cc0_scratch1
/-- The buffer that keeps the first hidden array. -/
abbrev sm2 : Memref sig .tc .vmem S4096x128 .f32 := Memref.whole cc0_scratch2
/-- The buffer that keeps the second hidden array. -/
abbrev sm3 : Memref sig .tc .vmem S4096x128 .f32 := Memref.whole cc0_scratch3
/-- The buffer that keeps the third hidden array. -/
abbrev sm4 : Memref sig .tc .vmem S4096x128 .f32 := Memref.whole cc0_scratch4
/-- The buffer that keeps the fourth hidden array. -/
abbrev sm5 : Memref sig .tc .vmem S4096x128 .f32 := Memref.whole cc0_scratch5
/-- The buffer that keeps the masked column sums. -/
abbrev sm6 : Memref sig .tc .vmem S2x128 .f32 := Memref.whole cc0_scratch6

/-- What the launch hands the region, buffer by buffer. -/
theorem PhiA_eq (c : Dev nD) : (Pipeline.ΦA spec0 c : sProp 𝕄)
      = iprop(iprop((∃ d, owns (c : Thread nD τ) sm0 fullShare d) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d) ∗ (∃ d, owns (c : Thread nD τ) sm5 fullShare d) ∗ (∃ d, owns (c : Thread nD τ) sm6 fullShare d)) ∗ (∃ r, prngReg c r)) := by
  unfold Pipeline.ΦA; rw [scopedRest0_eq]; simp only [sm0, sm1, sm2, sm3, sm4, sm5, sm6, owns_whole]; try rfl

/-! ## The proof data -/

/-- The buffers kept between points, before point `n`, for the points between the first and the last: the features, the
    first `n` row blocks of the hidden arrays, and the column sums so far. -/
def mid (c : Dev nD) (n : ℕ) : sProp 𝕄 :=
  iprop(iprop(owns (c : Thread nD τ) sm0 fullShare (FA m c) ∗ owns (c : Thread nD τ) sm1 fullShare (FD m c)
      ∗ (∃ d, owns (c : Thread nD τ) sm2 fullShare (fill n (stack (hb1 m c)) d))
      ∗ (∃ d, owns (c : Thread nD τ) sm3 fullShare (fill n (stack (hb2 m c)) d))
      ∗ (∃ d, owns (c : Thread nD τ) sm4 fullShare (fill n (stack (hb3 m c)) d))
      ∗ (∃ d, owns (c : Thread nD τ) sm5 fullShare (fill n (stack (hb4 m c)) d))
      ∗ owns (c : Thread nD τ) sm6 fullShare (sumAt m c (min (n - 1) 15) (by omega))) ∗ (∃ r, prngReg c r))
/-- Before the first point and after the last nothing is said of them. -/
def PhiS (c : Dev nD) (n : ℕ) : sProp 𝕄 := if n = 0 ∨ n = 17 then Pipeline.ΦA spec0 c else mid m c n

/-- The arrays of the launch, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => hb1 m c (cap t)
    | ⟨16, _⟩ => hb2 m c (cap t)
    | ⟨17, _⟩ => scoresAt m c t
    | ⟨_ + 18, h⟩ => absurd h (Nat.not_lt.2 (Nat.le_add_left _ _))
  Φ t := PhiS m c t.val
  q _ := fullShare
  owed _ := 0

/-- The arrays of the launch are those that the program hands it. -/
theorem A_eq (c : Dev nD) (w : Fin cfg0.W) : (dats m 0 c).A w = V m c (Pipeline.arrRef spec0 w) := by
  dsimp only [dats]
/-- The buffer of the adjacency matrix ends a point as it began. -/
theorem after0 (c : Dev nD) (t : Fin cfg0.N) : (dats m 0 c).after 0 t = iblk m c 0 t := by dsimp only [dats]
/-- The buffer of the diffusion matrix ends a point as it began. -/
theorem after1 (c : Dev nD) (t : Fin cfg0.N) : (dats m 0 c).after 1 t = iblk m c 1 t := by dsimp only [dats]
/-- The buffer of the first node features ends a point as it began. -/
theorem after2 (c : Dev nD) (t : Fin cfg0.N) : (dats m 0 c).after 2 t = iblk m c 2 t := by dsimp only [dats]
/-- The buffer of the second node features ends a point as it began. -/
theorem after3 (c : Dev nD) (t : Fin cfg0.N) : (dats m 0 c).after 3 t = iblk m c 3 t := by dsimp only [dats]
/-- The buffer of the first weights ends a point as it began. -/
theorem after4 (c : Dev nD) (t : Fin cfg0.N) : (dats m 0 c).after 4 t = iblk m c 4 t := by dsimp only [dats]
/-- The buffer of the second weights ends a point as it began. -/
theorem after5 (c : Dev nD) (t : Fin cfg0.N) : (dats m 0 c).after 5 t = iblk m c 5 t := by dsimp only [dats]
/-- The buffer of the first bias ends a point as it began. -/
theorem after6 (c : Dev nD) (t : Fin cfg0.N) : (dats m 0 c).after 6 t = iblk m c 6 t := by dsimp only [dats]
/-- The buffer of the second bias ends a point as it began. -/
theorem after7 (c : Dev nD) (t : Fin cfg0.N) : (dats m 0 c).after 7 t = iblk m c 7 t := by dsimp only [dats]
/-- The buffer of the first slope ends a point as it began. -/
theorem after8 (c : Dev nD) (t : Fin cfg0.N) : (dats m 0 c).after 8 t = iblk m c 8 t := by dsimp only [dats]
/-- The buffer of the second slope ends a point as it began. -/
theorem after9 (c : Dev nD) (t : Fin cfg0.N) : (dats m 0 c).after 9 t = iblk m c 9 t := by dsimp only [dats]
/-- The buffer of the mask ends a point as it began. -/
theorem after10 (c : Dev nD) (t : Fin cfg0.N) : (dats m 0 c).after 10 t = iblk m c 10 t := by dsimp only [dats]
/-- The buffer of the bilinear weight ends a point as it began. -/
theorem after11 (c : Dev nD) (t : Fin cfg0.N) : (dats m 0 c).after 11 t = iblk m c 11 t := by dsimp only [dats]
/-- The buffer of the bilinear bias ends a point as it began. -/
theorem after12 (c : Dev nD) (t : Fin cfg0.N) : (dats m 0 c).after 12 t = iblk m c 12 t := by dsimp only [dats]
/-- The buffer of the first sample bias ends a point as it began. -/
theorem after13 (c : Dev nD) (t : Fin cfg0.N) : (dats m 0 c).after 13 t = iblk m c 13 t := by dsimp only [dats]
/-- The buffer of the second sample bias ends a point as it began. -/
theorem after14 (c : Dev nD) (t : Fin cfg0.N) : (dats m 0 c).after 14 t = iblk m c 14 t := by dsimp only [dats]
/-- The first hidden array's buffer ends a point with the row block it holds. -/
theorem after15 (c : Dev nD) (t : Fin cfg0.N) : (dats m 0 c).after 15 t = hb1 m c (cap t) := by dsimp only [dats]
/-- The second hidden array's buffer ends a point with the row block it holds. -/
theorem after16 (c : Dev nD) (t : Fin cfg0.N) : (dats m 0 c).after 16 t = hb2 m c (cap t) := by dsimp only [dats]
/-- The scores' buffer ends the last point with the scores. -/
theorem after17 (c : Dev nD) (t : Fin cfg0.N) : (dats m 0 c).after 17 t = scoresAt m c t := by dsimp only [dats]
/-- Every point finds its block of the adjacency matrix in the buffer. -/
theorem before0 (c : Dev nD) (t : Fin cfg0.N) (d) : (dats m 0 c).before 0 t d = iblk m c 0 t :=
  before0_0_of m (dats m 0 c) (A_eq m c 0) (after0 m c) t d
/-- Every point finds its block of the diffusion matrix in the buffer. -/
theorem before1 (c : Dev nD) (t : Fin cfg0.N) (d) : (dats m 0 c).before 1 t d = iblk m c 1 t :=
  before0_1_of m (dats m 0 c) (A_eq m c 1) (after1 m c) t d
/-- Every point finds its block of the first node features in the buffer. -/
theorem before2 (c : Dev nD) (t : Fin cfg0.N) (d) : (dats m 0 c).before 2 t d = iblk m c 2 t :=
  before0_2_of m (dats m 0 c) (A_eq m c 2) (after2 m c) t d
/-- Every point finds its block of the second node features in the buffer. -/
theorem before3 (c : Dev nD) (t : Fin cfg0.N) (d) : (dats m 0 c).before 3 t d = iblk m c 3 t :=
  before0_3_of m (dats m 0 c) (A_eq m c 3) (after3 m c) t d
/-- Every point finds its block of the first weights in the buffer. -/
theorem before4 (c : Dev nD) (t : Fin cfg0.N) (d) : (dats m 0 c).before 4 t d = iblk m c 4 t :=
  before0_4_of m (dats m 0 c) (A_eq m c 4) (after4 m c) t d
/-- Every point finds its block of the second weights in the buffer. -/
theorem before5 (c : Dev nD) (t : Fin cfg0.N) (d) : (dats m 0 c).before 5 t d = iblk m c 5 t :=
  before0_5_of m (dats m 0 c) (A_eq m c 5) (after5 m c) t d
/-- Every point finds its block of the first bias in the buffer. -/
theorem before6 (c : Dev nD) (t : Fin cfg0.N) (d) : (dats m 0 c).before 6 t d = iblk m c 6 t :=
  before0_6_of m (dats m 0 c) (A_eq m c 6) (after6 m c) t d
/-- Every point finds its block of the second bias in the buffer. -/
theorem before7 (c : Dev nD) (t : Fin cfg0.N) (d) : (dats m 0 c).before 7 t d = iblk m c 7 t :=
  before0_7_of m (dats m 0 c) (A_eq m c 7) (after7 m c) t d
/-- Every point finds its block of the first slope in the buffer. -/
theorem before8 (c : Dev nD) (t : Fin cfg0.N) (d) : (dats m 0 c).before 8 t d = iblk m c 8 t :=
  before0_8_of m (dats m 0 c) (A_eq m c 8) (after8 m c) t d
/-- Every point finds its block of the second slope in the buffer. -/
theorem before9 (c : Dev nD) (t : Fin cfg0.N) (d) : (dats m 0 c).before 9 t d = iblk m c 9 t :=
  before0_9_of m (dats m 0 c) (A_eq m c 9) (after9 m c) t d
/-- Every point finds its block of the mask in the buffer. -/
theorem before10 (c : Dev nD) (t : Fin cfg0.N) (d) : (dats m 0 c).before 10 t d = iblk m c 10 t :=
  before0_10_of m (dats m 0 c) (A_eq m c 10) (after10 m c) t d
/-- Every point finds its block of the bilinear weight in the buffer. -/
theorem before11 (c : Dev nD) (t : Fin cfg0.N) (d) : (dats m 0 c).before 11 t d = iblk m c 11 t :=
  before0_11_of m (dats m 0 c) (A_eq m c 11) (after11 m c) t d
/-- Every point finds its block of the bilinear bias in the buffer. -/
theorem before12 (c : Dev nD) (t : Fin cfg0.N) (d) : (dats m 0 c).before 12 t d = iblk m c 12 t :=
  before0_12_of m (dats m 0 c) (A_eq m c 12) (after12 m c) t d
/-- Every point finds its block of the first sample bias in the buffer. -/
theorem before13 (c : Dev nD) (t : Fin cfg0.N) (d) : (dats m 0 c).before 13 t d = iblk m c 13 t :=
  before0_13_of m (dats m 0 c) (A_eq m c 13) (after13 m c) t d
/-- Every point finds its block of the second sample bias in the buffer. -/
theorem before14 (c : Dev nD) (t : Fin cfg0.N) (d) : (dats m 0 c).before 14 t d = iblk m c 14 t :=
  before0_14_of m (dats m 0 c) (A_eq m c 14) (after14 m c) t d
/-- What a point owns at its end of the buffer of the adjacency matrix. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
/-- What a point owns at its end of the buffer of the diffusion matrix. -/
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
/-- What a point owns at its end of the buffer of the first node features. -/
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
/-- What a point owns at its end of the buffer of the second node features. -/
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
/-- What a point owns at its end of the buffer of the first weights. -/
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
/-- What a point owns at its end of the buffer of the second weights. -/
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
/-- What a point owns at its end of the buffer of the first bias. -/
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
/-- What a point owns at its end of the buffer of the second bias. -/
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
/-- What a point owns at its end of the buffer of the first slope. -/
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
/-- What a point owns at its end of the buffer of the second slope. -/
theorem leaves9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after9]
/-- What a point owns at its end of the buffer of the mask. -/
theorem leaves10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after10]
/-- What a point owns at its end of the buffer of the bilinear weight. -/
theorem leaves11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after11]
/-- What a point owns at its end of the buffer of the bilinear bias. -/
theorem leaves12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after12]
/-- What a point owns at its end of the buffer of the first sample bias. -/
theorem leaves13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after13]
/-- What a point owns at its end of the buffer of the second sample bias. -/
theorem leaves14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after14]
/-- The first hidden array's buffer ends a point at its row block. -/
theorem leaves15 (c : Dev nD) (t : Fin cfg0.N) :
    (dats m 0 c).leavesExact 15 t = owns (c : Thread nD τ) (ms15 t) fullShare (hb1 m c (cap t)) := by
  have hi : cfg0.idle 15 (cfg0.grid.coords t) = decide (t.val = 16) := idle15 t
  unfold Dat.leavesExact
  by_cases h : t.val = 16
  · rw [hi, (flush15 t).mpr (by omega), after15]; simp only [h, decide_true]
  · rw [hi, after15]; simp only [h, decide_false]
/-- The last point finds there the block the point before it left. -/
theorem before15 (c : Dev nD) (t : Fin cfg0.N) (ht : t.val = 16) (d) : (dats m 0 c).before 15 t d = hb1 m c (cap t) := by
  have hf : (cfg0.win 15).flush ⟨t.val - 1, Nat.lt_of_le_of_lt (Nat.sub_le _ _) t.isLt⟩ = false :=
    Bool.eq_false_iff.mpr fun h => (flush15 _).mp h (by show t.val - 1 = 15; omega)
  have hi : cfg0.idle 15 (cfg0.grid.coords ⟨t.val - 1, Nat.lt_of_le_of_lt (Nat.sub_le _ _) t.isLt⟩) = false :=
    (idle15 _).trans (decide_eq_false (by show ¬ t.val - 1 = 16; omega))
  rw [(dats m 0 c).before_of_pos 15 t (by omega) (fetch15 t) d, hf, if_neg Bool.false_ne_true]
  unfold Dat.left
  rw [hi]
  have e : cap (⟨t.val - 1, Nat.lt_of_le_of_lt (Nat.sub_le _ _) t.isLt⟩ : Fin cfg0.N) = cap t :=
    Fin.ext (by show min (t.val - 1) 15 = min t.val 15; omega)
  exact (after15 m c _).trans (congrArg (fun q => hb1 m c q) e)
/-- The second hidden array's buffer ends a point at its row block. -/
theorem leaves16 (c : Dev nD) (t : Fin cfg0.N) :
    (dats m 0 c).leavesExact 16 t = owns (c : Thread nD τ) (ms16 t) fullShare (hb2 m c (cap t)) := by
  have hi : cfg0.idle 16 (cfg0.grid.coords t) = decide (t.val = 16) := idle16 t
  unfold Dat.leavesExact
  by_cases h : t.val = 16
  · rw [hi, (flush16 t).mpr (by omega), after16]; simp only [h, decide_true]
  · rw [hi, after16]; simp only [h, decide_false]
/-- The last point finds there the block the point before it left. -/
theorem before16 (c : Dev nD) (t : Fin cfg0.N) (ht : t.val = 16) (d) : (dats m 0 c).before 16 t d = hb2 m c (cap t) := by
  have hf : (cfg0.win 16).flush ⟨t.val - 1, Nat.lt_of_le_of_lt (Nat.sub_le _ _) t.isLt⟩ = false :=
    Bool.eq_false_iff.mpr fun h => (flush16 _).mp h (by show t.val - 1 = 15; omega)
  have hi : cfg0.idle 16 (cfg0.grid.coords ⟨t.val - 1, Nat.lt_of_le_of_lt (Nat.sub_le _ _) t.isLt⟩) = false :=
    (idle16 _).trans (decide_eq_false (by show ¬ t.val - 1 = 16; omega))
  rw [(dats m 0 c).before_of_pos 16 t (by omega) (fetch16 t) d, hf, if_neg Bool.false_ne_true]
  unfold Dat.left
  rw [hi]
  have e : cap (⟨t.val - 1, Nat.lt_of_le_of_lt (Nat.sub_le _ _) t.isLt⟩ : Fin cfg0.N) = cap t :=
    Fin.ext (by show min (t.val - 1) 15 = min t.val 15; omega)
  exact (after16 m c _).trans (congrArg (fun q => hb2 m c q) e)
/-- The scores' buffer is handed back as found before the last point. -/
theorem leaves17_early (c : Dev nD) (t : Fin cfg0.N) (ht : t.val ≠ 16) :
    (dats m 0 c).leavesExact 17 t = iprop(∃ d, owns (c : Thread nD τ) (ms17 t) fullShare ((dats m 0 c).before 17 t d)) :=
  (dats m 0 c).leavesExact_idle 17 t ((idle17 t).trans (decide_eq_true ht))
    (Bool.eq_false_iff.mpr fun h => by
      have h17 : t.val < 17 := lt_of_lt_of_eq t.isLt (show cfg0.N = 17 from N_0)
      have := (flush0_17 t).mp h
      omega)
/-- The last point leaves the scores in the scores' buffer. -/
theorem leaves17_last (c : Dev nD) (t : Fin cfg0.N) (ht : t.val = 16) :
    (dats m 0 c).leavesExact 17 t = owns (c : Thread nD τ) (ms17 t) fullShare (scoresAt m c t) := by
  have hi : cfg0.idle 17 (cfg0.grid.coords t) = false := (idle17 t).trans (decide_eq_false (by omega))
  unfold Dat.leavesExact; rw [hi, after17]

end Cert.KernelIdeal.Body

end
-- ==== Proof.Launch.lean ====
module

public import proofs.«01_k».proof.Proof.Gen.KernelIdeal.Frame
public import proofs.«01_k».proof.Proof.Gen.KernelIdeal.Skeleton
public import proofs.«01_k».proof.Proof.Data
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between the first and the last point the kept buffers hold the values of `mid`. -/
theorem PhiS_mid (c : Dev nD) (n : ℕ) (h0 : n ≠ 0) (h17 : n ≠ 17) : PhiS m c n = mid m c n := by
  unfold PhiS; rw [if_neg (by omega)]
/-- Before the first point nothing is said of the kept buffers. -/
theorem PhiS_zero (c : Dev nD) (n : ℕ) (h : n = 0) : PhiS m c n = Pipeline.ΦA spec0 c := by
  unfold PhiS; rw [if_pos (Or.inl h)]
/-- After the last point nothing is said of the kept buffers. -/
theorem PhiS_last (c : Dev nD) (n : ℕ) (h : n = 17) : PhiS m c n = Pipeline.ΦA spec0 c := by
  unfold PhiS; rw [if_pos (Or.inr h)]

/-- Before the last point the row block held is the point's own. -/
theorem cap_eq (t : Fin cfg0.N) (h : t.val < 16) : cap t = t := Fin.ext (by show min t.val 15 = t.val; omega)

/-- The column sums depend on the block's number alone. -/
theorem sumAt_congr (c : Dev nD) (a b : ℕ) (h : a = b) (ha : a < 16) (hb : b < 16) : sumAt m c a ha = sumAt m c b hb := by
  subst h; rfl
/-- Adding a point's share to the column sums gives the sums after it. -/
theorem sumAt_step (c : Dev nD) (t : Fin cfg0.N) (h1 : t.val ≠ 0) (h16 : t.val < 16) :
    addf (sumAt m c (min (t.val - 1) 15) (by omega)) (part m c t.val h16) = sumAt m c (min (t.val + 1 - 1) 15) (by omega) := by
  rw [sumAt_congr m c (min (t.val - 1) 15) (t.val - 1) (by omega) (by omega) (by omega),
    sumAt_congr m c (min (t.val + 1 - 1) 15) (t.val - 1 + 1) (by omega) (by omega) (by omega)]
  have e : ∀ a (ha : a < 16), a = t.val → part m c t.val h16 = part m c a ha := by rintro a ha rfl; rfl
  rw [e (t.val - 1 + 1) (by omega) (by omega)]
  rfl

/-- Until the last point the scores' window holds whatever it held. -/
theorem before17 (c : Dev nD) : ∀ (n : ℕ) (h : n < cfg0.N), n ≤ 16 → ∀ d, (dats m 0 c).before 17 ⟨n, h⟩ d = d
  | 0, h, _, d => by unfold Dat.before; rw [fetch17, if_neg Bool.false_ne_true, if_pos rfl]
  | n + 1, h, hn, d => by
    have hf : (cfg0.win 17).fetch ⟨n + 1, h⟩ = false := fetch17 _
    have hfl : (cfg0.win 17).flush ⟨n, Nat.lt_of_succ_lt h⟩ = false :=
      Bool.eq_false_iff.mpr fun hh => by have := (flush0_17 _).mp hh; simp only at this; omega
    rw [(dats m 0 c).before_of_pos 17 ⟨n + 1, h⟩ (by simp) hf d]
    have hi : cfg0.idle 17 (cfg0.grid.coords ⟨n, Nat.lt_of_succ_lt h⟩) = true := (idle17 _).trans (decide_eq_true (by show n ≠ 16; omega))
    show (if (cfg0.win 17).flush ⟨n, _⟩ then d else (dats m 0 c).left 17 ⟨n, _⟩ d) = d
    rw [hfl, if_neg Bool.false_ne_true]
    unfold Dat.left
    rw [hi]
    exact before17 c n _ (by omega) d

/-- The body at a point of kind A, at the launch's values. -/
theorem atA (c : Dev nD) (t : Fin cfg0.N) (ht : t.val = 0) (d1 d2 d3 d4 : Vec F S4096x128 .f32) (E : Set ℕ) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ (∃ d, owns (c : Thread nD τ) (ms15 t) fullShare d) ∗ (∃ d, owns (c : Thread nD τ) (ms16 t) fullShare d) ∗ (∃ d, owns (c : Thread nD τ) (ms17 t) fullShare d) ∗ (∃ d, owns (c : Thread nD τ) sm0 fullShare d) ∗ (∃ d, owns (c : Thread nD τ) sm1 fullShare d) ∗ owns (c : Thread nD τ) sm2 fullShare (d1) ∗ owns (c : Thread nD τ) sm3 fullShare (d2) ∗ owns (c : Thread nD τ) sm4 fullShare (d3) ∗ owns (c : Thread nD τ) sm5 fullShare (d4) ∗ (∃ d, owns (c : Thread nD τ) sm6 fullShare d)
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ owns (c : Thread nD τ) (ms15 t) fullShare (hb1 m c (cap t)) ∗ owns (c : Thread nD τ) (ms16 t) fullShare (hb2 m c (cap t)) ∗ (∃ d, owns (c : Thread nD τ) (ms17 t) fullShare d) ∗ owns (c : Thread nD τ) sm0 fullShare (FA m c) ∗ owns (c : Thread nD τ) sm1 fullShare (FD m c) ∗ owns (c : Thread nD τ) sm2 fullShare (fill (t.val + 1) (stack (hb1 m c)) d1) ∗ owns (c : Thread nD τ) sm3 fullShare (fill (t.val + 1) (stack (hb2 m c)) d2) ∗ owns (c : Thread nD τ) sm4 fullShare (fill (t.val + 1) (stack (hb3 m c)) d3) ∗ owns (c : Thread nD τ) sm5 fullShare (fill (t.val + 1) (stack (hb4 m c)) d4) ∗ owns (c : Thread nD τ) sm6 fullShare (sumAt m c (min (t.val + 1 - 1) 15) (by omega))) -∗ K ⟨⟩))
      ⊢ wp frame (wpE (defs₀ (F := F)) Variants.none c none) E (bodyAt0 t) K := by
  obtain rfl : t = t0 := Fin.ext ht
  have h1 : isBlock (grid0.coords t0) := (block_iff _).mpr (by omega)
  have key := specA (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) sm0 (Memref.isWhole_whole _) sm1 (Memref.isWhole_whole _) sm2 (Memref.isWhole_whole _) sm3 (Memref.isWhole_whole _) sm4 (Memref.isWhole_whole _) sm5 (Memref.isWhole_whole _) sm6 (Memref.isWhole_whole _) ((first_iff _).mpr rfl) h1 (fun h => absurd ((later_iff _).mp h) (by decide)) (fun h => absurd ((last_iff _).mp h) (by decide))
    (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) d1 d2 d3 d4 (256 * t0.val) (off1_eq t0) E K
  rw [show feat1 (iblk m c 4 t0) (iblk m c 2 t0) (iblk m c 3 t0) = FA m c from rfl,
    show feat2 (iblk m c 5 t0) (iblk m c 2 t0) (iblk m c 3 t0) = FD m c from rfl] at key
  have hz : t0.val < 16 := by decide
  rw [show blkH1 (iblk m c 0 t0) (FA m c) (iblk m c 6 t0) (iblk m c 8 t0) = hb1 m c t0 from rfl,
    show blkH2 (iblk m c 1 t0) (FD m c) (iblk m c 7 t0) (iblk m c 9 t0) = hb2 m c t0 from rfl,
    show blkH3 (iblk m c 0 t0) (FA m c) (iblk m c 6 t0) (iblk m c 8 t0) = hb3 m c t0 from rfl,
    show blkH4 (iblk m c 1 t0) (FD m c) (iblk m c 7 t0) (iblk m c 9 t0) = hb4 m c t0 from rfl,
    show partSum (iblk m c 0 t0) (iblk m c 1 t0) (FA m c) (FD m c) (iblk m c 6 t0) (iblk m c 7 t0) (iblk m c 8 t0) (iblk m c 9 t0)
      (mskAt (grid0.coords t0) h1 (iblk m c 10 t0)) = part m c t0.val hz from rfl] at key
  rw [show putRows (256 * t0.val) (hb1 m c t0) d1 = fill (t0.val + 1) (stack (hb1 m c)) d1 from by
    conv_lhs => rw [← fill_zero (stack (hb1 m c)) d1]
    exact putRows_fill (hb1 m c) d1 t0 hz] at key
  rw [show putRows (256 * t0.val) (hb2 m c t0) d2 = fill (t0.val + 1) (stack (hb2 m c)) d2 from by
    conv_lhs => rw [← fill_zero (stack (hb2 m c)) d2]
    exact putRows_fill (hb2 m c) d2 t0 hz] at key
  rw [show putRows (256 * t0.val) (hb3 m c t0) d3 = fill (t0.val + 1) (stack (hb3 m c)) d3 from by
    conv_lhs => rw [← fill_zero (stack (hb3 m c)) d3]
    exact putRows_fill (hb3 m c) d3 t0 hz] at key
  rw [show putRows (256 * t0.val) (hb4 m c t0) d4 = fill (t0.val + 1) (stack (hb4 m c)) d4 from by
    conv_lhs => rw [← fill_zero (stack (hb4 m c)) d4]
    exact putRows_fill (hb4 m c) d4 t0 hz] at key
  rw [show part m c t0.val hz = sumAt m c (min (t0.val + 1 - 1) 15) (by omega) from rfl] at key
  rw [cap_eq t0 hz]
  exact key

/-- The body at a point of kind B, at the launch's values. -/
theorem atB (c : Dev nD) (t : Fin cfg0.N) (ht0 : t.val ≠ 0) (ht : t.val < 16) (d1 d2 d3 d4 : Vec F S4096x128 .f32) (E : Set ℕ) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ (∃ d, owns (c : Thread nD τ) (ms15 t) fullShare d) ∗ (∃ d, owns (c : Thread nD τ) (ms16 t) fullShare d) ∗ (∃ d, owns (c : Thread nD τ) (ms17 t) fullShare d) ∗ owns (c : Thread nD τ) sm0 fullShare (FA m c) ∗ owns (c : Thread nD τ) sm1 fullShare (FD m c) ∗ owns (c : Thread nD τ) sm2 fullShare (fill t.val (stack (hb1 m c)) d1) ∗ owns (c : Thread nD τ) sm3 fullShare (fill t.val (stack (hb2 m c)) d2) ∗ owns (c : Thread nD τ) sm4 fullShare (fill t.val (stack (hb3 m c)) d3) ∗ owns (c : Thread nD τ) sm5 fullShare (fill t.val (stack (hb4 m c)) d4) ∗ owns (c : Thread nD τ) sm6 fullShare (sumAt m c (min (t.val - 1) 15) (by omega))
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ owns (c : Thread nD τ) (ms15 t) fullShare (hb1 m c (cap t)) ∗ owns (c : Thread nD τ) (ms16 t) fullShare (hb2 m c (cap t)) ∗ (∃ d, owns (c : Thread nD τ) (ms17 t) fullShare d) ∗ owns (c : Thread nD τ) sm0 fullShare (FA m c) ∗ owns (c : Thread nD τ) sm1 fullShare (FD m c) ∗ owns (c : Thread nD τ) sm2 fullShare (fill (t.val + 1) (stack (hb1 m c)) d1) ∗ owns (c : Thread nD τ) sm3 fullShare (fill (t.val + 1) (stack (hb2 m c)) d2) ∗ owns (c : Thread nD τ) sm4 fullShare (fill (t.val + 1) (stack (hb3 m c)) d3) ∗ owns (c : Thread nD τ) sm5 fullShare (fill (t.val + 1) (stack (hb4 m c)) d4) ∗ owns (c : Thread nD τ) sm6 fullShare (sumAt m c (min (t.val + 1 - 1) 15) (by omega))) -∗ K ⟨⟩))
      ⊢ wp frame (wpE (defs₀ (F := F)) Variants.none c none) E (bodyAt0 t) K := by
  have h1 : isBlock (grid0.coords t) := (block_iff _).mpr ht
  have key := specB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sm0 (Memref.isWhole_whole _) sm1 (Memref.isWhole_whole _) sm2 (Memref.isWhole_whole _) sm3 (Memref.isWhole_whole _) sm4 (Memref.isWhole_whole _) sm5 (Memref.isWhole_whole _) sm6 (Memref.isWhole_whole _) (fun h => ht0 ((first_iff _).mp h)) h1 ((later_iff _).mpr (by omega)) (fun h => absurd ((last_iff _).mp h) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (FA m c) (FD m c) (fill t.val (stack (hb1 m c)) d1) (fill t.val (stack (hb2 m c)) d2) (fill t.val (stack (hb3 m c)) d3) (fill t.val (stack (hb4 m c)) d4) (sumAt m c (min (t.val - 1) 15) (by omega)) (256 * t.val) (off1_eq t) E K
  have hz : t.val < 16 := ht
  rw [show blkH1 (iblk m c 0 t) (FA m c) (iblk m c 6 t) (iblk m c 8 t) = hb1 m c t from rfl,
    show blkH2 (iblk m c 1 t) (FD m c) (iblk m c 7 t) (iblk m c 9 t) = hb2 m c t from rfl,
    show blkH3 (iblk m c 0 t) (FA m c) (iblk m c 6 t) (iblk m c 8 t) = hb3 m c t from rfl,
    show blkH4 (iblk m c 1 t) (FD m c) (iblk m c 7 t) (iblk m c 9 t) = hb4 m c t from rfl,
    show partSum (iblk m c 0 t) (iblk m c 1 t) (FA m c) (FD m c) (iblk m c 6 t) (iblk m c 7 t) (iblk m c 8 t) (iblk m c 9 t)
      (mskAt (grid0.coords t) h1 (iblk m c 10 t)) = part m c t.val hz from rfl] at key
  rw [putRows_fill (hb1 m c) d1 t hz] at key
  rw [putRows_fill (hb2 m c) d2 t hz] at key
  rw [putRows_fill (hb3 m c) d3 t hz] at key
  rw [putRows_fill (hb4 m c) d4 t hz] at key
  rw [sumAt_step m c t ht0 hz] at key
  rw [cap_eq t hz]
  exact key

/-- The body at a point of kind C, at the launch's values. -/
theorem atC (c : Dev nD) (t : Fin cfg0.N) (ht : t.val = 16) (d1 d2 d3 d4 : Vec F S4096x128 .f32) (E : Set ℕ) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ owns (c : Thread nD τ) (ms15 t) fullShare (hb1 m c (cap t)) ∗ owns (c : Thread nD τ) (ms16 t) fullShare (hb2 m c (cap t)) ∗ (∃ d, owns (c : Thread nD τ) (ms17 t) fullShare d) ∗ (∃ d, owns (c : Thread nD τ) sm0 fullShare d) ∗ (∃ d, owns (c : Thread nD τ) sm1 fullShare d) ∗ owns (c : Thread nD τ) sm2 fullShare (fill t.val (stack (hb1 m c)) d1) ∗ owns (c : Thread nD τ) sm3 fullShare (fill t.val (stack (hb2 m c)) d2) ∗ owns (c : Thread nD τ) sm4 fullShare (fill t.val (stack (hb3 m c)) d3) ∗ owns (c : Thread nD τ) sm5 fullShare (fill t.val (stack (hb4 m c)) d4) ∗ owns (c : Thread nD τ) sm6 fullShare (sumAt m c (min (t.val - 1) 15) (by omega))
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ owns (c : Thread nD τ) (ms15 t) fullShare (hb1 m c (cap t)) ∗ owns (c : Thread nD τ) (ms16 t) fullShare (hb2 m c (cap t)) ∗ owns (c : Thread nD τ) (ms17 t) fullShare (scoresAt m c t) ∗ (∃ d, owns (c : Thread nD τ) sm0 fullShare d) ∗ (∃ d, owns (c : Thread nD τ) sm1 fullShare d) ∗ owns (c : Thread nD τ) sm2 fullShare (fill t.val (stack (hb1 m c)) d1) ∗ owns (c : Thread nD τ) sm3 fullShare (fill t.val (stack (hb2 m c)) d2) ∗ owns (c : Thread nD τ) sm4 fullShare (fill t.val (stack (hb3 m c)) d3) ∗ owns (c : Thread nD τ) sm5 fullShare (fill t.val (stack (hb4 m c)) d4) ∗ owns (c : Thread nD τ) sm6 fullShare (sumAt m c (min (t.val - 1) 15) (by omega))) -∗ K ⟨⟩))
      ⊢ wp frame (wpE (defs₀ (F := F)) Variants.none c none) E (bodyAt0 t) K := by
  have key := specC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sm0 (Memref.isWhole_whole _) sm1 (Memref.isWhole_whole _) sm2 (Memref.isWhole_whole _) sm3 (Memref.isWhole_whole _) sm4 (Memref.isWhole_whole _) sm5 (Memref.isWhole_whole _) sm6 (Memref.isWhole_whole _) (fun h => absurd ((first_iff _).mp h) (by omega)) (fun h => absurd ((block_iff _).mp h) (by omega)) ((last_iff _).mpr ht)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hb1 m c (cap t)) (hb2 m c (cap t)) (fill t.val (stack (hb1 m c)) d1) (fill t.val (stack (hb2 m c)) d2) (fill t.val (stack (hb3 m c)) d3) (fill t.val (stack (hb4 m c)) d4) (sumAt m c (min (t.val - 1) 15) (by omega)) E K
  have e : scores (iblk m c 10 t) (iblk m c 11 t) (iblk m c 12 t) (iblk m c 13 t) (iblk m c 14 t) (fill t.val (stack (hb1 m c)) d1) (fill t.val (stack (hb2 m c)) d2) (fill t.val (stack (hb3 m c)) d3) (fill t.val (stack (hb4 m c)) d4) (sumAt m c (min (t.val - 1) 15) (by omega)) = scoresAt m c t := by
    rw [fill_full _ (by omega), fill_full _ (by omega), fill_full _ (by omega), fill_full _ (by omega),
      sumAt_congr m c (min (t.val - 1) 15) 15 (by omega) (by omega) (by omega)]
    rfl
  rw [e] at key
  exact key

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))
/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- The body at the first point takes the state before it to the state after it. -/
theorem soundA (c : Dev nD) (t : Fin cfg0.N) (ht : t.val = 0) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12, before13, before14]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [leaves0, leaves1, leaves2, leaves3, leaves4, leaves5, leaves6, leaves7, leaves8, leaves9, leaves10, leaves11, leaves12, leaves13, leaves14, leaves15, leaves16, leaves17_early m c t (by omega)]
  simp only [before17 m c t.val t.isLt (by omega)]
  rw [PhiS_zero m c _ ht, PhiS_mid m c _ (by omega) (by omega), PhiA_eq]
  unfold mid
  iintro ⟨⟨⟨⟨%x0, S0⟩, ⟨%x1, S1⟩, ⟨%x2, S2⟩, ⟨%x3, S3⟩, ⟨%x4, S4⟩, ⟨%x5, S5⟩, ⟨%x6, S6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply atA m c t ht x2 x3 x4 x5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [S0]; · iexists _; iexact S0
  isplitl [S1]; · iexists _; iexact S1
  isplitl [S2]; · iexact S2
  isplitl [S3]; · iexact S3
  isplitl [S4]; · iexact S4
  isplitl [S5]; · iexact S5
  isplitl [S6]; · iexists _; iexact S6
  iintro ⟨H0, H1, H2, H3, H4, H5, H6, H7, H8, H9, H10, H11, H12, H13, H14, H15, H16, ⟨%y18, H17⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexists _; iexact S2
      isplitl [S3]; · iexists _; iexact S3
      isplitl [S4]; · iexists _; iexact S4
      isplitl [S5]; · iexists _; iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

/-- The body at a later row block takes the state before it to the state after it. -/
theorem soundB (c : Dev nD) (t : Fin cfg0.N) (ht0 : t.val ≠ 0) (ht : t.val < 16) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12, before13, before14]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [leaves0, leaves1, leaves2, leaves3, leaves4, leaves5, leaves6, leaves7, leaves8, leaves9, leaves10, leaves11, leaves12, leaves13, leaves14, leaves15, leaves16, leaves17_early m c t (by omega)]
  simp only [before17 m c t.val t.isLt (by omega)]
  rw [PhiS_mid m c _ ht0 (by omega), PhiS_mid m c _ (by omega) (by omega)]
  unfold mid
  iintro ⟨⟨⟨S0, S1, ⟨%x2, S2⟩, ⟨%x3, S3⟩, ⟨%x4, S4⟩, ⟨%x5, S5⟩, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply atB m c t ht0 ht x2 x3 x4 x5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, H12, H13, H14, H15, H16, ⟨%y18, H17⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexists _; iexact S2
      isplitl [S3]; · iexists _; iexact S3
      isplitl [S4]; · iexists _; iexact S4
      isplitl [S5]; · iexists _; iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

/-- The body at the last point takes the state before it to the state after it. -/
theorem soundC (c : Dev nD) (t : Fin cfg0.N) (ht : t.val = 16) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12, before13, before14]
  simp only [before15 m c t ht, before16 m c t ht]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [leaves0, leaves1, leaves2, leaves3, leaves4, leaves5, leaves6, leaves7, leaves8, leaves9, leaves10, leaves11, leaves12, leaves13, leaves14, leaves15, leaves16, leaves17_last m c t ht]
  rw [PhiS_mid m c _ (by omega) (by omega), PhiS_last m c _ (by omega), PhiA_eq]
  unfold mid
  iintro ⟨⟨⟨S0, S1, ⟨%x2, S2⟩, ⟨%x3, S3⟩, ⟨%x4, S4⟩, ⟨%x5, S5⟩, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply atC m c t ht x2 x3 x4 x5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [S0]; · iexists _; iexact S0
  isplitl [S1]; · iexists _; iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, H12, H13, H14, H15, H16, H17, ⟨%y19, S0⟩, ⟨%y20, S1⟩, S2, S3, S4, S5, S6⟩
  isplitl [S0 S1 S2 S3 S4 S5 S6 Hg]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 17 := lt_of_lt_of_eq t.isLt (show cfg0.N = 17 from N_0)
  by_cases h0 : t.val = 0
  · exact soundA m c t h0
  by_cases h16 : t.val = 16
  · exact soundC m c t h16
  exact soundB m c t h0 (by omega)

/-- The kernel function called at a point is the body at that point. -/
theorem defs₀_row (t : Fin cfg0.N) :
    defs₀ (F := F) .tc cfg0.body (cfg0.bodyArgs t (cfg0.slots t)) = bodyAt0 t := by
  unfold defs₀; rw [Defs.onTc_tc]

/-- Every point of the launch meets what the pipeline asks of its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the state before the first point. -/
theorem hin (c : Dev nD) : Pipeline.ΦA spec0 c ⊢ (dats m 0 c).Φ 0 := by
  rw [show (dats m 0 c).Φ 0 = PhiS m c 0 from rfl, PhiS_zero m c 0 rfl]
/-- The state after the last point is what the launch takes back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_last m c _ (by rw [Fin.val_last]; exact N_0)]

-- the launch's implicit arguments are found by unifying its conclusion with this one
set_option backward.isDefEq.respectTransparency.types false in
set_option maxHeartbeats 800000 in
/-- The launch: every execution ends, with the windows' arrays and the other buffers at the values named, and no
    semaphore count left. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The whole program runs, and ends with the arrays that the proof data name. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution ends with the argument arrays unchanged and no semaphore count left. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Same.lean ====
module

public import proofs.«01_k».proof.Defs
public import proofs.«01_k».proof.Proof.Gen.Kernel
public import proofs.«01_k».proof.Proof.Launch

/-! The kernel and its idealization are one text: read at the hardware's formats they are equal programs, so the launch's
frame, proved for every reading of the idealization, is the kernel's own. -/

@[expose] public section

set_option maxRecDepth 16384

noncomputable section

namespace Cert.Proof

open Idealize.ShloMosaic Idealize.SL.Sem

/-- The two kernel functions are equal. -/
theorem body_same : @Cert.Kernel.cc0__fused_kernel Bits _ _ = @Cert.KernelIdeal.cc0__fused_kernel Bits _ _ := by
  with_unfolding_all rfl

set_option maxHeartbeats 4000000 in
/-- The two body tables are equal. -/
theorem table_same : Cert.Kernel.defs₀ (F := Bits) = Cert.KernelIdeal.defs₀ (F := Bits) := by
  unfold Cert.Kernel.defs₀ Cert.KernelIdeal.defs₀
  rw [body_same]
  congr 1
  funext l a
  match l, a with
  | 0, (t, s) => rfl
  | ⟨_ + 1, h⟩, _ => exact absurd h (by omega)

set_option maxHeartbeats 4000000 in
/-- With the pipeline's own bodies added, too. -/
theorem defs_same : Cert.Kernel.defs (F := Bits) = Cert.KernelIdeal.defs (F := Bits) := by
  unfold Cert.Kernel.defs Cert.KernelIdeal.defs
  rw [table_same]
  rfl

set_option maxHeartbeats 4000000 in
/-- The two entry functions are equal. -/
theorem main_same : Cert.Kernel.main (F := Bits) = Cert.KernelIdeal.main (F := Bits) := rfl

set_option maxHeartbeats 4000000 in
/-- The kernel at the hardware's formats runs, keeps its arguments and ends with every semaphore at zero. -/
theorem kernel_quiescent : Cert.quiescent_Kernel := by
  intro m g _
  rw [defs_same, main_same]
  exact Cert.KernelIdeal.Body.frame (F := Bits) m g

end Cert.Proof

end
-- ==== Proof.Math.lean ====
module

public import Idealize.ShloMosaic.PureOps.Ideal
public import Mathlib.Algebra.BigOperators.Group.Finset.Basic
public import Mathlib.Data.EReal.Operations

@[expose] public section

noncomputable section

/-! The mathematics of the two programs, over functions of row and column numbers with extended real values: one graph
    convolution, the masked mean's logistic, and the bilinear score in the two orders in which it can be summed. -/

namespace Cert.GraphConv

open Idealize.ShloMosaic
open scoped BigOperators

/-- `x` where it is nonnegative, `a * x` elsewhere. -/
def prelu (a x : EReal) : EReal := if 0 ≤ x then x else a * x

/-- The graph convolution's value at node `n` and feature `j`. -/
def gcn (S : Fin 4096 → Fin 128 → EReal) (A : Fin 4096 → Fin 4096 → EReal) (W : Fin 128 → Fin 128 → EReal)
    (b : Fin 128 → EReal) (a : EReal) (n : Fin 4096) (j : Fin 128) : EReal :=
  prelu a ((∑ x, A n x * ∑ l, S x l * W l j) + b j)

/-- The logistic function of the masked mean of feature `j`. -/
def summary (h : Fin 4096 → Fin 128 → EReal) (μ : Fin 4096 → EReal) (j : Fin 128) : EReal :=
  Ideal.logistic (Ideal.div (∑ n, h n j * μ n) (∑ n, μ n))

/-- The bilinear form of a node's features and the summary, the summary multiplied by the weight first. -/
def weightFirst (W : Fin 128 → Fin 128 → EReal) (x : Fin 128 → EReal) (c : Fin 128 → EReal) : EReal :=
  ∑ j, x j * ∑ k, W j k * c k

/-- The same form, the features multiplied by the weight first. -/
def featFirst (W : Fin 128 → Fin 128 → EReal) (x : Fin 128 → EReal) (c : Fin 128 → EReal) : EReal :=
  ∑ k, c k * ∑ j, W j k * x j

/-- An extended real that is a real number. -/
def IsFin (x : EReal) : Prop := ∃ r : ℝ, x = (r : EReal)

/-- A sum of two reals is real. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- A product of two reals is real. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The embedding of the reals respects finite sums. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsFin.sum {ι : Type} (s : Finset ι) {f : ι → EReal} (hf : ∀ i, IsFin (f i)) : IsFin (∑ i ∈ s, f i) := by
  choose g hg using hf
  exact ⟨∑ i ∈ s, g i, by rw [coe_sum']; exact Finset.sum_congr rfl fun i _ => hg i⟩

/-- With a real slope the activation of a real is real. -/
theorem IsFin.prelu {a x : EReal} (ha : IsFin a) (hx : IsFin x) : IsFin (prelu a x) := by
  unfold GraphConv.prelu
  split
  · exact hx
  · exact ha.mul hx

/-- The convolution of finite arrays is finite. -/
theorem IsFin.gcn {S : Fin 4096 → Fin 128 → EReal} {A : Fin 4096 → Fin 4096 → EReal} {W : Fin 128 → Fin 128 → EReal}
    {b : Fin 128 → EReal} {a : EReal} (hS : ∀ n j, IsFin (S n j)) (hA : ∀ n k, IsFin (A n k)) (hW : ∀ j k, IsFin (W j k))
    (hb : ∀ j, IsFin (b j)) (ha : IsFin a) (n : Fin 4096) (j : Fin 128) : IsFin (gcn S A W b a n j) :=
  IsFin.prelu ha (IsFin.add (IsFin.sum _ fun x => (hA n x).mul (IsFin.sum _ fun l => (hS x l).mul (hW l j))) (hb j))

/-- The logistic function takes finite values only. -/
theorem IsFin.logistic (x : EReal) : IsFin (Ideal.logistic x) := by
  induction x using EReal.rec with
  | bot => exact ⟨0, by simp⟩
  | top => exact ⟨1, by simp⟩
  | coe r => exact ⟨_, Ideal.logistic_coe r⟩

/-- A summary is real whatever the hidden array and the mask are. -/
theorem IsFin.summary (h : Fin 4096 → Fin 128 → EReal) (μ : Fin 4096 → EReal) (j : Fin 128) : IsFin (summary h μ j) :=
  IsFin.logistic _

/-- Of finite arrays the two orders of the bilinear form agree. -/
theorem weightFirst_eq {W : Fin 128 → Fin 128 → EReal} {x c : Fin 128 → EReal}
    (hW : ∀ j k, IsFin (W j k)) (hx : ∀ j, IsFin (x j)) (hc : ∀ k, IsFin (c k)) : weightFirst W x c = featFirst W x c := by
  unfold weightFirst featFirst
  choose w hw using hW
  choose y hy using hx
  choose d hd using hc
  have e1 : ∀ j, x j * ∑ k, W j k * c k = ((∑ k, y j * (w j k * d k) : ℝ) : EReal) := fun j => by
    rw [← Finset.mul_sum, EReal.coe_mul, coe_sum', hy]
    exact congrArg _ (Finset.sum_congr rfl fun k _ => by rw [hw, hd, EReal.coe_mul])
  have e2 : ∀ k, c k * ∑ j, W j k * x j = ((∑ j, d k * (w j k * y j) : ℝ) : EReal) := fun k => by
    rw [← Finset.mul_sum, EReal.coe_mul, coe_sum', hd]
    exact congrArg _ (Finset.sum_congr rfl fun j _ => by rw [hw, hy, EReal.coe_mul])
  rw [Finset.sum_congr rfl fun j _ => e1 j, Finset.sum_congr rfl fun k _ => e2 k, ← coe_sum', ← coe_sum', Finset.sum_comm]
  exact congrArg _ (Finset.sum_congr rfl fun k _ => Finset.sum_congr rfl fun j _ => by ring)

end Cert.GraphConv

end
-- ==== Proof.KMath.lean ====
module

public import proofs.«01_k».proof.Proof.Blocks
public import proofs.«01_k».proof.Proof.Math
public import Idealize.ShloMosaic.PureOps.Ideal
public import Idealize.ShloMosaic.Lib.Pipeline.ValueKit
public import Idealize.ShloMosaic.Lib.Claim

@[expose] public section

set_option maxRecDepth 16384

noncomputable section

/-! What the kernel's body computes from the blocks it holds, entry by entry over the extended reals. -/

namespace Cert.KernelIdeal.Body

open Cert.KernelIdeal Cert.KernelIdeal.Gen Cert.GraphConv
open Idealize.ShloMosaic Idealize.ShloMosaic.TcCoe Idealize.SL.Sem

/-- An index of a 4096 × 128 array from its two coordinates. -/
theorem eq_ix2 (x : S4096x128.Idx) (i : Fin 4096) (j : Fin 128) (h0 : i.val = (x 0).val) (h1 : j.val = (x 1).val) : x = ix2 i j := by
  funext a
  match a with
  | ⟨0, _⟩ => exact Fin.ext h0.symm
  | ⟨1, _⟩ => exact Fin.ext h1.symm

/-! ## The features times the weights: the first sequence's columns, then the second's -/

/-- Left half of the stored features: the first node features times the first weights. -/
theorem feat1_lo (w : Vec Ideal S128x128 .f32) (s1 s2 : Vec Ideal S4096x128 .f32) (n : Fin 4096) (j : Fin 128) :
    feat1 w s1 s2 (ix2 n ⟨j.val, by omega⟩) = ∑ l, s1 (ix2 n l) * w (ix2 l j) := by
  unfold feat1
  canon_tiles x h
  · have h2 : j.val = 128 + (x 1).val := h1
    omega
  · obtain rfl := eq_ix2 x n j h0 h1
    unfold k0_pay3 k0_pay1
    pointwise

/-- Right half of the stored features: the second node features times the first weights. -/
theorem feat1_hi (w : Vec Ideal S128x128 .f32) (s1 s2 : Vec Ideal S4096x128 .f32) (n : Fin 4096) (j : Fin 128) :
    feat1 w s1 s2 (ix2 n ⟨128 + j.val, by omega⟩) = ∑ l, s2 (ix2 n l) * w (ix2 l j) := by
  unfold feat1
  canon_tiles x h
  · obtain rfl := eq_ix2 x n j h0 (Nat.add_left_cancel (h1 : 128 + j.val = 128 + _))
    unfold k0_pay4 k0_pay2
    pointwise
  · have h2 : 128 + j.val = (x 1).val := h1
    omega

/-- Left half of the stored features: the first node features times the second weights. -/
theorem feat2_lo (w : Vec Ideal S128x128 .f32) (s1 s2 : Vec Ideal S4096x128 .f32) (n : Fin 4096) (j : Fin 128) :
    feat2 w s1 s2 (ix2 n ⟨j.val, by omega⟩) = ∑ l, s1 (ix2 n l) * w (ix2 l j) := by
  unfold feat2
  canon_tiles x h
  · have h2 : j.val = 128 + (x 1).val := h1
    omega
  · obtain rfl := eq_ix2 x n j h0 h1
    unfold k0_pay5 k0_pay1
    pointwise

/-- Right half of the stored features: the second node features times the second weights. -/
theorem feat2_hi (w : Vec Ideal S128x128 .f32) (s1 s2 : Vec Ideal S4096x128 .f32) (n : Fin 4096) (j : Fin 128) :
    feat2 w s1 s2 (ix2 n ⟨128 + j.val, by omega⟩) = ∑ l, s2 (ix2 n l) * w (ix2 l j) := by
  unfold feat2
  canon_tiles x h
  · obtain rfl := eq_ix2 x n j h0 (Nat.add_left_cancel (h1 : 128 + j.val = 128 + _))
    unfold k0_pay6 k0_pay2
    pointwise
  · have h2 : 128 + j.val = (x 1).val := h1
    omega

/-! ## The row blocks of the hidden arrays -/

variable (adj : Vec Ideal S256x4096 .f32) (fa : Vec Ideal S4096x256 .bf16) (b : Vec Ideal S1x128 .f32) (a : Vec Ideal S1x1 .f32)
  (i : Fin 256) (j : Fin 128)

/-- An entry of a row block of the first hidden array (first features, adjacency), from the matrix's rows and the stored features. -/
theorem blkH1_apply : blkH1 adj fa b a (ix2 i j)
    = prelu (a (ix2 0 0)) ((∑ x, adj (ix2 i x) * fa (ix2 x ⟨j.val, by omega⟩)) + b (ix2 0 j)) := by
  unfold blkH1 sc k0_pay13 k0_pay11 k0_pay9
  pointwise
  rfl

/-- An entry of a row block of the second hidden array (first features, diffusion), from the matrix's rows and the stored features. -/
theorem blkH2_apply : blkH2 adj fa b a (ix2 i j)
    = prelu (a (ix2 0 0)) ((∑ x, adj (ix2 i x) * fa (ix2 x ⟨j.val, by omega⟩)) + b (ix2 0 j)) := by
  unfold blkH2 sc k0_pay18 k0_pay17 k0_pay16 k0_pay15 k0_pay12 k0_pay10
  pointwise
  rfl

/-- An entry of a row block of the third hidden array (second features, adjacency), from the matrix's rows and the stored features. -/
theorem blkH3_apply : blkH3 adj fa b a (ix2 i j)
    = prelu (a (ix2 0 0)) ((∑ x, adj (ix2 i x) * fa (ix2 x ⟨128 + j.val, by omega⟩)) + b (ix2 0 j)) := by
  unfold blkH3 sc k0_pay14 k0_pay11 k0_pay9
  pointwise
  rfl

/-- An entry of a row block of the fourth hidden array (second features, diffusion), from the matrix's rows and the stored features. -/
theorem blkH4_apply : blkH4 adj fa b a (ix2 i j)
    = prelu (a (ix2 0 0)) ((∑ x, adj (ix2 i x) * fa (ix2 x ⟨128 + j.val, by omega⟩)) + b (ix2 0 j)) := by
  unfold blkH4 sc k0_pay22 k0_pay12 k0_pay10
  pointwise
  rfl

/-! ## A row block's share of the masked sums -/

variable (dif : Vec Ideal S256x4096 .f32) (fd : Vec Ideal S4096x256 .bf16) (b' : Vec Ideal S1x128 .f32) (a' : Vec Ideal S1x1 .f32)
  (mb : Vec Ideal S1x256 .f32)

/-- Row 0 of a block's masked column sums: those of the first hidden array. -/
theorem partSum_fst : partSum adj dif fa fd b b' a a' mb (ix2 0 j) = ∑ x, mb (ix2 0 x) * blkH1 adj fa b a (ix2 x j) := by
  unfold partSum k0_pay23
  pointwise
  rfl

/-- Row 1 of a block's masked column sums: those of the second hidden array. -/
theorem partSum_snd : partSum adj dif fa fd b b' a a' mb (ix2 1 j) = ∑ x, mb (ix2 0 x) * blkH2 dif fd b' a' (ix2 x j) := by
  unfold partSum k0_pay23
  pointwise
  rfl

/-! ## The scores -/

/-- A summary from a row of masked sums and the mask. -/
def summaryOf (s : Fin 128 → EReal) (msk : Vec Ideal S1x4096 .f32) (k : Fin 128) : EReal :=
  Ideal.logistic (Ideal.div (s k) (∑ n : Fin 4096, msk (ix2 0 n)))

/-- The four score columns, entry by entry, from the hidden arrays and the column sums. -/
theorem scores_apply (msk : Vec Ideal S1x4096 .f32) (wb : Vec Ideal S128x128 .f32) (bb : Vec Ideal S1x1 .f32) (sb1 sb2 : Vec Ideal S4096x1 .f32)
    (h1 h2 h3 h4 : Vec Ideal S4096x128 .f32) (s : Vec Ideal S2x128 .f32) (n : Fin 4096) (q : Fin 4) :
    scores msk wb bb sb1 sb2 h1 h2 h3 h4 s (ix2 n q)
      = if q.val < 1 then weightFirst (fun j k => wb (ix2 j k)) (fun j => h2 (ix2 n j)) (summaryOf (fun k => s (ix2 0 k)) msk) + bb (ix2 0 0) + sb1 (ix2 n 0)
        else if q.val < 2 then weightFirst (fun j k => wb (ix2 j k)) (fun j => h1 (ix2 n j)) (summaryOf (fun k => s (ix2 1 k)) msk) + bb (ix2 0 0) + sb2 (ix2 n 0)
        else if q.val < 3 then weightFirst (fun j k => wb (ix2 j k)) (fun j => h4 (ix2 n j)) (summaryOf (fun k => s (ix2 0 k)) msk) + bb (ix2 0 0)
        else weightFirst (fun j k => wb (ix2 j k)) (fun j => h3 (ix2 n j)) (summaryOf (fun k => s (ix2 1 k)) msk) + bb (ix2 0 0) := by
  unfold scores sc k0_pay8 k0_pay29 k0_pay28 k0_pay27 k0_pay26 k0_pay25
  pointwise
  simp only [Finset.univ_unique, Finset.sum_singleton]
  unfold weightFirst summaryOf
  match q with
  | 0 => rfl
  | 1 => rfl
  | 2 => rfl
  | 3 => rfl

end Cert.KernelIdeal.Body

end
-- ==== Proof.Values.lean ====
module

public import proofs.«01_k».proof.Proof.Gen.KernelIdeal.Frame
public import proofs.«01_k».proof.Proof.Gen.KernelIdeal.Skeleton
public import proofs.«01_k».proof.Proof.Launch
public import Idealize.ShloMosaic.Lib.Pipeline.ValueKit.Geometry

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the first hidden array written at a point: its own row block, at the last point the last one again. -/
theorem index15 : ∀ t : Fin cfg0.N, win0_15.index t (0 : Fin 2) = min t.val 15 ∧ win0_15.index t (1 : Fin 2) = 0 :=
  (by decide +kernel : ∀ t : Fin grid0.N, win0_15.index t (0 : Fin 2) = min t.val 15 ∧ win0_15.index t (1 : Fin 2) = 0)

/-- The launch leaves the first hidden array: its sixteen row blocks one below the other. -/
theorem final15 (c : Dev nD) : (dats m 0 c).arrAt 15 cfg0.N = stack (hb1 m c) := by
  refine (dats m 0 c).arrAt_eq_of_covers 15 _ (by decide +kernel) fun t hf y => ?_
  blk_simp
  rw [after15]
  unfold stack
  have ht : t.val < 17 := lt_of_lt_of_eq t.isLt (show cfg0.N = 17 from N_0)
  have hy0 : (y (0 : Fin 2)).val < 256 := (y (0 : Fin 2)).isLt
  have e0 : (((win0_15.blk t).view.emb y) (0 : Fin 2)).val = min t.val 15 * 256 + (y (0 : Fin 2)).val := by
    blk_simp [(index15 t).1]
  have e1 : (((win0_15.blk t).view.emb y) (1 : Fin 2)).val = (y (1 : Fin 2)).val := by
    blk_simp [(index15 t).2]
  have ep : pt ((((win0_15.blk t).view.emb y) (0 : Fin 2)).val / 256) (by omega) = cap t := Fin.ext (by
    show (((win0_15.blk t).view.emb y) (0 : Fin 2)).val / 256 = min t.val 15; omega)
  rw [ep]
  congr 1
  funext a
  apply Fin.ext
  match a with
  | ⟨0, _⟩ => show (y (0 : Fin 2)).val = (((win0_15.blk t).view.emb y) (0 : Fin 2)).val % 256; omega
  | ⟨1, _⟩ => exact e1.symm

/-- The block of the second hidden array written at a point: its own row block, at the last point the last one again. -/
theorem index16 : ∀ t : Fin cfg0.N, win0_16.index t (0 : Fin 2) = min t.val 15 ∧ win0_16.index t (1 : Fin 2) = 0 :=
  (by decide +kernel : ∀ t : Fin grid0.N, win0_16.index t (0 : Fin 2) = min t.val 15 ∧ win0_16.index t (1 : Fin 2) = 0)

/-- The launch leaves the second hidden array: its sixteen row blocks one below the other. -/
theorem final16 (c : Dev nD) : (dats m 0 c).arrAt 16 cfg0.N = stack (hb2 m c) := by
  refine (dats m 0 c).arrAt_eq_of_covers 16 _ (by decide +kernel) fun t hf y => ?_
  blk_simp
  rw [after16]
  unfold stack
  have ht : t.val < 17 := lt_of_lt_of_eq t.isLt (show cfg0.N = 17 from N_0)
  have hy0 : (y (0 : Fin 2)).val < 256 := (y (0 : Fin 2)).isLt
  have e0 : (((win0_16.blk t).view.emb y) (0 : Fin 2)).val = min t.val 15 * 256 + (y (0 : Fin 2)).val := by
    blk_simp [(index16 t).1]
  have e1 : (((win0_16.blk t).view.emb y) (1 : Fin 2)).val = (y (1 : Fin 2)).val := by
    blk_simp [(index16 t).2]
  have ep : pt ((((win0_16.blk t).view.emb y) (0 : Fin 2)).val / 256) (by omega) = cap t := Fin.ext (by
    show (((win0_16.blk t).view.emb y) (0 : Fin 2)).val / 256 = min t.val 15; omega)
  rw [ep]
  congr 1
  funext a
  apply Fin.ext
  match a with
  | ⟨0, _⟩ => show (y (0 : Fin 2)).val = (((win0_16.blk t).view.emb y) (0 : Fin 2)).val % 256; omega
  | ⟨1, _⟩ => exact e1.symm

/-- The last point. -/
abbrev tL : Fin cfg0.N := ⟨16, by rw [show cfg0.N = 17 from N_0]; decide⟩
/-- The launch leaves the scores that the last point computes. -/
theorem final17 (c : Dev nD) : (dats m 0 c).arrAt 17 cfg0.N = scoresAt m c tL := by
  refine (dats m 0 c).arrAt_eq_of_after_last 17 tL (by decide +kernel) _ fun j => ?_
  blk_simp
  rw [after17]

/-- Every execution ends with these three results. -/
theorem run : θ_run defs (onTc (τ := τ) (main (F := F))) ⟨m, fun _ => 0, ρ⟩ (fun r => ∀ c : Dev nD,
    r.2.mem ((c.tc : Thread nD τ).loc main_v13) = shapeCast S1x16384 (transpose S4x4096 [1, 0] (scoresAt m c tL) transposes_S4096x4_S4x4096_1_0) shapeCasts_S4x4096_S1x16384
    ∧ r.2.mem ((c.tc : Thread nD τ).loc main_v14) = shapeCast S1x4096x128 (stack (hb1 m c)) shapeCasts_S4096x128_S1x4096x128
    ∧ r.2.mem ((c.tc : Thread nD τ).loc main_v15) = shapeCast S1x4096x128 (stack (hb2 m c)) shapeCasts_S4096x128_S1x4096x128) := by
  refine (θ_run defs _ _).mono (fun r h c => ?_) (run_main m ρ)
  refine ⟨((h c).2 main_v13 (Pipeline.mem_restRefs_of main_v13 (by decide) (by decide))).trans ?_,
    ((h c).2 main_v14 (Pipeline.mem_restRefs_of main_v14 (by decide) (by decide))).trans ?_,
    ((h c).2 main_v15 (Pipeline.mem_restRefs_of main_v15 (by decide) (by decide))).trans ?_⟩
  · unfold Pipeline.afterTail₀
    simp only [hostOps1, List.flatten_cons, List.flatten_nil, List.append_nil]
    after_results
    rw [← final17 m c]
    exact congrArg (fun X : Vec F S4096x4 .f32 => shapeCast S1x16384 (transpose S4x4096 [1, 0] X transposes_S4096x4_S4x4096_1_0) shapeCasts_S4x4096_S1x16384) (Pipeline.withArrays_arr spec0 launch0.win.arr_inj c (V0 m c) (fun w => (dats m 0 c).arrAt w (cfgs 0).N) 17)
  · unfold Pipeline.afterTail₀
    simp only [hostOps1, List.flatten_cons, List.flatten_nil, List.append_nil]
    after_results
    rw [← final15 m c]
    exact congrArg (fun X : Vec F S4096x128 .f32 => shapeCast S1x4096x128 X shapeCasts_S4096x128_S1x4096x128) (Pipeline.withArrays_arr spec0 launch0.win.arr_inj c (V0 m c) (fun w => (dats m 0 c).arrAt w (cfgs 0).N) 15)
  · unfold Pipeline.afterTail₀
    simp only [hostOps1, List.flatten_cons, List.flatten_nil, List.append_nil]
    after_results
    rw [← final16 m c]
    exact congrArg (fun X : Vec F S4096x128 .f32 => shapeCast S1x4096x128 X shapeCasts_S4096x128_S1x4096x128) (Pipeline.withArrays_arr spec0 launch0.win.arr_inj c (V0 m c) (fun w => (dats m 0 c).arrAt w (cfgs 0).N) 16)

end Cert.KernelIdeal.Body

end
-- ==== Proof.Reads.lean ====
module

public import proofs.«01_k».proof.Proof.Values
public import Idealize.ShloMosaic.PureOps.Ideal
public import Idealize.ShloMosaic.Lib.Pipeline.ValueKit
public import Idealize.ShloMosaic.Lib.Claim

/-! What the blocks the kernel reads hold, in terms of the argument arrays: at a row block's point the adjacency
windows hold 256 rows of their matrix, and every other input window holds its whole array at every point. -/

@[expose] public section

set_option maxRecDepth 16384

noncomputable section

namespace Cert.KernelIdeal.Body

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## The reshaped operands -/

/-- The adjacency matrix as the launch reads it, reshaped from the argument. -/
theorem entry_v0 (r x : Fin 4096) : V m c main_v0 (ix2 r x) = m ((c.tc : Thread nD τ).loc main_arg2) (ix3 0 r x) := by
  simp only [V, V0, List.flatten_cons, List.flatten_nil, List.append_nil]
  entry_read
  pointwise

/-- The diffusion matrix as the launch reads it, reshaped from the argument. -/
theorem entry_v1 (r x : Fin 4096) : V m c main_v1 (ix2 r x) = m ((c.tc : Thread nD τ).loc main_arg3) (ix3 0 r x) := by
  simp only [V, V0, List.flatten_cons, List.flatten_nil, List.append_nil]
  entry_read
  pointwise

/-- The first node features as the launch reads it, reshaped from the argument. -/
theorem entry_v2 (r : Fin 4096) (x : Fin 128) : V m c main_v2 (ix2 r x) = m ((c.tc : Thread nD τ).loc main_arg0) (ix3 0 r x) := by
  simp only [V, V0, List.flatten_cons, List.flatten_nil, List.append_nil]
  entry_read
  pointwise

/-- The second node features as the launch reads it, reshaped from the argument. -/
theorem entry_v3 (r : Fin 4096) (x : Fin 128) : V m c main_v3 (ix2 r x) = m ((c.tc : Thread nD τ).loc main_arg1) (ix3 0 r x) := by
  simp only [V, V0, List.flatten_cons, List.flatten_nil, List.append_nil]
  entry_read
  pointwise

/-- The first bias as the launch reads it, reshaped from the argument. -/
theorem entry_v4 (x : Fin 128) : V m c main_v4 (ix2 0 x) = m ((c.tc : Thread nD τ).loc main_arg8) (ix1 x) := by
  simp only [V, V0, List.flatten_cons, List.flatten_nil, List.append_nil]
  entry_read
  pointwise

/-- The second bias as the launch reads it, reshaped from the argument. -/
theorem entry_v5 (x : Fin 128) : V m c main_v5 (ix2 0 x) = m ((c.tc : Thread nD τ).loc main_arg11) (ix1 x) := by
  simp only [V, V0, List.flatten_cons, List.flatten_nil, List.append_nil]
  entry_read
  pointwise

/-- The first slope as the launch reads it, reshaped from the argument. -/
theorem entry_v6  : V m c main_v6 (ix2 0 0) = m ((c.tc : Thread nD τ).loc main_arg9) ix0 := by
  simp only [V, V0, List.flatten_cons, List.flatten_nil, List.append_nil]
  entry_read
  pointwise

/-- The second slope as the launch reads it, reshaped from the argument. -/
theorem entry_v7  : V m c main_v7 (ix2 0 0) = m ((c.tc : Thread nD τ).loc main_arg12) ix0 := by
  simp only [V, V0, List.flatten_cons, List.flatten_nil, List.append_nil]
  entry_read
  pointwise

/-- The bilinear bias as the launch reads it, reshaped from the argument. -/
theorem entry_v8  : V m c main_v8 (ix2 0 0) = m ((c.tc : Thread nD τ).loc main_arg14) (ix1 0) := by
  simp only [V, V0, List.flatten_cons, List.flatten_nil, List.append_nil]
  entry_read
  pointwise

/-- The first sample bias as the launch reads it, reshaped from the argument. -/
theorem entry_v9 (n : Fin 4096) : V m c main_v9 (ix2 n 0) = m ((c.tc : Thread nD τ).loc main_arg5) (ix2 0 n) := by
  simp only [V, V0, List.flatten_cons, List.flatten_nil, List.append_nil]
  entry_read
  pointwise

/-- The second sample bias as the launch reads it, reshaped from the argument. -/
theorem entry_v10 (n : Fin 4096) : V m c main_v10 (ix2 n 0) = m ((c.tc : Thread nD τ).loc main_arg6) (ix2 0 n) := by
  simp only [V, V0, List.flatten_cons, List.flatten_nil, List.append_nil]
  entry_read
  pointwise

/-! ## Where the blocks lie -/

/-- The block of the adjacency matrix read at a point: its own row block, at the last point the last one again. -/
theorem index0 : ∀ t : Fin cfg0.N, win0_0.index t (0 : Fin 2) = min t.val 15 ∧ win0_0.index t (1 : Fin 2) = 0 :=
  (by decide +kernel : ∀ t : Fin grid0.N, win0_0.index t (0 : Fin 2) = min t.val 15 ∧ win0_0.index t (1 : Fin 2) = 0)

/-- Row `i` of the block of the adjacency matrix at point `p` is row `256 p + i` of the array. -/
theorem emb0 (p : ℕ) (hp : p < 16) (i : Fin 256) (x : Fin 4096) :
    (win0_0.blk (pt p hp)).view.emb (ix2 i x) = ix2 ⟨256 * p + i.val, by omega⟩ x := by
  have h0 : win0_0.index (pt p hp) (0 : Fin 2) = p := by rw [(index0 _).1]; show min p 15 = p; omega
  blk_ext [h0, (index0 (pt p hp)).2]

/-- The block of the diffusion matrix read at a point: its own row block, at the last point the last one again. -/
theorem index1 : ∀ t : Fin cfg0.N, win0_1.index t (0 : Fin 2) = min t.val 15 ∧ win0_1.index t (1 : Fin 2) = 0 :=
  (by decide +kernel : ∀ t : Fin grid0.N, win0_1.index t (0 : Fin 2) = min t.val 15 ∧ win0_1.index t (1 : Fin 2) = 0)

/-- Row `i` of the block of the diffusion matrix at point `p` is row `256 p + i` of the array. -/
theorem emb1 (p : ℕ) (hp : p < 16) (i : Fin 256) (x : Fin 4096) :
    (win0_1.blk (pt p hp)).view.emb (ix2 i x) = ix2 ⟨256 * p + i.val, by omega⟩ x := by
  have h0 : win0_1.index (pt p hp) (0 : Fin 2) = p := by rw [(index1 _).1]; show min p 15 = p; omega
  blk_ext [h0, (index1 (pt p hp)).2]

/-- The arrays read whole have the same one block at every point. -/
theorem whole : ∀ t : Fin cfg0.N,
    win0_2.index t (0 : Fin 2) = 0 ∧
    win0_2.index t (1 : Fin 2) = 0 ∧
    win0_3.index t (0 : Fin 2) = 0 ∧
    win0_3.index t (1 : Fin 2) = 0 ∧
    win0_4.index t (0 : Fin 2) = 0 ∧
    win0_4.index t (1 : Fin 2) = 0 ∧
    win0_5.index t (0 : Fin 2) = 0 ∧
    win0_5.index t (1 : Fin 2) = 0 ∧
    win0_6.index t (0 : Fin 2) = 0 ∧
    win0_6.index t (1 : Fin 2) = 0 ∧
    win0_7.index t (0 : Fin 2) = 0 ∧
    win0_7.index t (1 : Fin 2) = 0 ∧
    win0_8.index t (0 : Fin 2) = 0 ∧
    win0_8.index t (1 : Fin 2) = 0 ∧
    win0_9.index t (0 : Fin 2) = 0 ∧
    win0_9.index t (1 : Fin 2) = 0 ∧
    win0_10.index t (0 : Fin 2) = 0 ∧
    win0_10.index t (1 : Fin 2) = 0 ∧
    win0_11.index t (0 : Fin 2) = 0 ∧
    win0_11.index t (1 : Fin 2) = 0 ∧
    win0_12.index t (0 : Fin 2) = 0 ∧
    win0_12.index t (1 : Fin 2) = 0 ∧
    win0_13.index t (0 : Fin 2) = 0 ∧
    win0_13.index t (1 : Fin 2) = 0 ∧
    win0_14.index t (0 : Fin 2) = 0 ∧
    win0_14.index t (1 : Fin 2) = 0 :=
  (by decide +kernel : ∀ t : Fin grid0.N,
    win0_2.index t (0 : Fin 2) = 0 ∧
    win0_2.index t (1 : Fin 2) = 0 ∧
    win0_3.index t (0 : Fin 2) = 0 ∧
    win0_3.index t (1 : Fin 2) = 0 ∧
    win0_4.index t (0 : Fin 2) = 0 ∧
    win0_4.index t (1 : Fin 2) = 0 ∧
    win0_5.index t (0 : Fin 2) = 0 ∧
    win0_5.index t (1 : Fin 2) = 0 ∧
    win0_6.index t (0 : Fin 2) = 0 ∧
    win0_6.index t (1 : Fin 2) = 0 ∧
    win0_7.index t (0 : Fin 2) = 0 ∧
    win0_7.index t (1 : Fin 2) = 0 ∧
    win0_8.index t (0 : Fin 2) = 0 ∧
    win0_8.index t (1 : Fin 2) = 0 ∧
    win0_9.index t (0 : Fin 2) = 0 ∧
    win0_9.index t (1 : Fin 2) = 0 ∧
    win0_10.index t (0 : Fin 2) = 0 ∧
    win0_10.index t (1 : Fin 2) = 0 ∧
    win0_11.index t (0 : Fin 2) = 0 ∧
    win0_11.index t (1 : Fin 2) = 0 ∧
    win0_12.index t (0 : Fin 2) = 0 ∧
    win0_12.index t (1 : Fin 2) = 0 ∧
    win0_13.index t (0 : Fin 2) = 0 ∧
    win0_13.index t (1 : Fin 2) = 0 ∧
    win0_14.index t (0 : Fin 2) = 0 ∧
    win0_14.index t (1 : Fin 2) = 0)

/-- The first node features: one block that is the whole array. -/
theorem emb2 (t : Fin cfg0.N) (i : Fin 4096) (x : Fin 128) : (win0_2.blk t).view.emb (ix2 i x) = ix2 i x := by
  blk_ext [whole t]

/-- The second node features: one block that is the whole array. -/
theorem emb3 (t : Fin cfg0.N) (i : Fin 4096) (x : Fin 128) : (win0_3.blk t).view.emb (ix2 i x) = ix2 i x := by
  blk_ext [whole t]

/-- The first bias: one block that is the whole array. -/
theorem emb6 (t : Fin cfg0.N) (x : Fin 128) : (win0_6.blk t).view.emb (ix2 0 x) = ix2 0 x := by
  blk_ext [whole t]

/-- The second bias: one block that is the whole array. -/
theorem emb7 (t : Fin cfg0.N) (x : Fin 128) : (win0_7.blk t).view.emb (ix2 0 x) = ix2 0 x := by
  blk_ext [whole t]

/-- The first slope: one block that is the whole array. -/
theorem emb8 (t : Fin cfg0.N)  : (win0_8.blk t).view.emb (ix2 0 0) = ix2 0 0 := by
  blk_ext [whole t]

/-- The second slope: one block that is the whole array. -/
theorem emb9 (t : Fin cfg0.N)  : (win0_9.blk t).view.emb (ix2 0 0) = ix2 0 0 := by
  blk_ext [whole t]

/-- The bilinear bias: one block that is the whole array. -/
theorem emb12 (t : Fin cfg0.N)  : (win0_12.blk t).view.emb (ix2 0 0) = ix2 0 0 := by
  blk_ext [whole t]

/-- The first sample bias: one block that is the whole array. -/
theorem emb13 (t : Fin cfg0.N) (i : Fin 4096) : (win0_13.blk t).view.emb (ix2 i 0) = ix2 i 0 := by
  blk_ext [whole t]

/-- The second sample bias: one block that is the whole array. -/
theorem emb14 (t : Fin cfg0.N) (i : Fin 4096) : (win0_14.blk t).view.emb (ix2 i 0) = ix2 i 0 := by
  blk_ext [whole t]

/-! ## What they hold -/

/-- The row block of the adjacency matrix at a point, in terms of the argument. -/
theorem read0 (p : ℕ) (hp : p < 16) (i : Fin 256) (x : Fin 4096) :
    iblk m c 0 (pt p hp) (ix2 i x) = m ((c.tc : Thread nD τ).loc main_arg2) (ix3 0 ⟨256 * p + i.val, by omega⟩ x) :=
  (congrArg (V m c main_v0) (emb0 p hp i x)).trans (entry_v0 m c _ _)

/-- The row block of the diffusion matrix at a point, in terms of the argument. -/
theorem read1 (p : ℕ) (hp : p < 16) (i : Fin 256) (x : Fin 4096) :
    iblk m c 1 (pt p hp) (ix2 i x) = m ((c.tc : Thread nD τ).loc main_arg3) (ix3 0 ⟨256 * p + i.val, by omega⟩ x) :=
  (congrArg (V m c main_v1) (emb1 p hp i x)).trans (entry_v1 m c _ _)

/-- The block of the first node features at any point, in terms of the argument. -/
theorem read2 (t : Fin cfg0.N) (i : Fin 4096) (x : Fin 128) : iblk m c 2 t (ix2 i x) = m ((c.tc : Thread nD τ).loc main_arg0) (ix3 0 i x) :=
  (congrArg (V m c main_v2) (emb2 t i x)).trans (entry_v2 m c i x)

/-- The block of the second node features at any point, in terms of the argument. -/
theorem read3 (t : Fin cfg0.N) (i : Fin 4096) (x : Fin 128) : iblk m c 3 t (ix2 i x) = m ((c.tc : Thread nD τ).loc main_arg1) (ix3 0 i x) :=
  (congrArg (V m c main_v3) (emb3 t i x)).trans (entry_v3 m c i x)

/-- The block of the first weights at any point, in terms of the argument. -/
theorem read4 (t : Fin cfg0.N) (i x : Fin 128) : iblk m c 4 t (ix2 i x) = m ((c.tc : Thread nD τ).loc main_arg7) (ix2 i x) := by
  blk_ext! [iblk, V, whole t]

/-- The block of the second weights at any point, in terms of the argument. -/
theorem read5 (t : Fin cfg0.N) (i x : Fin 128) : iblk m c 5 t (ix2 i x) = m ((c.tc : Thread nD τ).loc main_arg10) (ix2 i x) := by
  blk_ext! [iblk, V, whole t]

/-- The block of the first bias at any point, in terms of the argument. -/
theorem read6 (t : Fin cfg0.N) (x : Fin 128) : iblk m c 6 t (ix2 0 x) = m ((c.tc : Thread nD τ).loc main_arg8) (ix1 x) :=
  (congrArg (V m c main_v4) (emb6 t x)).trans (entry_v4 m c x)

/-- The block of the second bias at any point, in terms of the argument. -/
theorem read7 (t : Fin cfg0.N) (x : Fin 128) : iblk m c 7 t (ix2 0 x) = m ((c.tc : Thread nD τ).loc main_arg11) (ix1 x) :=
  (congrArg (V m c main_v5) (emb7 t x)).trans (entry_v5 m c x)

/-- The block of the first slope at any point, in terms of the argument. -/
theorem read8 (t : Fin cfg0.N)  : iblk m c 8 t (ix2 0 0) = m ((c.tc : Thread nD τ).loc main_arg9) ix0 :=
  (congrArg (V m c main_v6) (emb8 t )).trans (entry_v6 m c )

/-- The block of the second slope at any point, in terms of the argument. -/
theorem read9 (t : Fin cfg0.N)  : iblk m c 9 t (ix2 0 0) = m ((c.tc : Thread nD τ).loc main_arg12) ix0 :=
  (congrArg (V m c main_v7) (emb9 t )).trans (entry_v7 m c )

/-- The block of the mask at any point, in terms of the argument. -/
theorem read10 (t : Fin cfg0.N) (x : Fin 4096) : iblk m c 10 t (ix2 0 x) = m ((c.tc : Thread nD τ).loc main_arg4) (ix2 0 x) := by
  blk_ext! [iblk, V, whole t]

/-- The block of the bilinear weight at any point, in terms of the argument. -/
theorem read11 (t : Fin cfg0.N) (i x : Fin 128) : iblk m c 11 t (ix2 i x) = m ((c.tc : Thread nD τ).loc main_arg13) (ix2 i x) := by
  blk_ext! [iblk, V, whole t]

/-- The block of the bilinear bias at any point, in terms of the argument. -/
theorem read12 (t : Fin cfg0.N)  : iblk m c 12 t (ix2 0 0) = m ((c.tc : Thread nD τ).loc main_arg14) (ix1 0) :=
  (congrArg (V m c main_v8) (emb12 t )).trans (entry_v8 m c )

/-- The block of the first sample bias at any point, in terms of the argument. -/
theorem read13 (t : Fin cfg0.N) (i : Fin 4096) : iblk m c 13 t (ix2 i 0) = m ((c.tc : Thread nD τ).loc main_arg5) (ix2 0 i) :=
  (congrArg (V m c main_v9) (emb13 t i)).trans (entry_v9 m c i)

/-- The block of the second sample bias at any point, in terms of the argument. -/
theorem read14 (t : Fin cfg0.N) (i : Fin 4096) : iblk m c 14 t (ix2 i 0) = m ((c.tc : Thread nD τ).loc main_arg6) (ix2 0 i) :=
  (congrArg (V m c main_v10) (emb14 t i)).trans (entry_v10 m c i)

/-- The mask entries of row block `p`: entries `256 p` to `256 p + 255` of the mask. -/
theorem mskAt_apply (p : ℕ) (hp : p < 16) (hb) (msk : Vec Ideal S1x4096 .f32) (x : Fin 256) :
    mskAt (grid0.coords (pt p hp)) hb msk (ix2 0 x) = msk (ix2 0 ⟨256 * p + x.val, by omega⟩) := by
  have ho : k0_off2 (grid0.coords (pt p hp)) = ![0, 256 * p] := off2_eq (pt p hp)
  unfold mskAt
  pointwise
  blk_ext [ho]

end Cert.KernelIdeal.Body

end
-- ==== Proof.KValue.lean ====
module

public import proofs.«01_k».proof.Proof.KMath
public import proofs.«01_k».proof.Proof.Reads

/-! The arrays the kernel carries, in closed form: the sixteen row blocks one below the other are the four graph
convolutions, the sixteen partial sums add up to the masked column sums, and so the scores are those of the whole arrays. -/

@[expose] public section

set_option maxRecDepth 16384

noncomputable section

namespace Cert.KernelIdeal.Body

open Cert.KernelIdeal Cert.KernelIdeal.Gen Cert.GraphConv
open Idealize.ShloMosaic Idealize.ShloMosaic.TcCoe Idealize.SL.Sem

variable (m : (ℓ : Loc nD τ sig) → Buf (Elt Ideal) ℓ) (c : Dev nD)

/-- The first sequence through the first layer. -/
def g1 (n : Fin 4096) (j : Fin 128) : EReal :=
  gcn (fun x l => m ((c.tc : Thread nD τ).loc main_arg0) (ix3 0 x l)) (fun y x => m ((c.tc : Thread nD τ).loc main_arg2) (ix3 0 y x))
    (fun l k => m ((c.tc : Thread nD τ).loc main_arg7) (ix2 l k)) (fun k => m ((c.tc : Thread nD τ).loc main_arg8) (ix1 k)) (m ((c.tc : Thread nD τ).loc main_arg9) ix0) n j
/-- The first sequence through the second layer. -/
def g2 (n : Fin 4096) (j : Fin 128) : EReal :=
  gcn (fun x l => m ((c.tc : Thread nD τ).loc main_arg0) (ix3 0 x l)) (fun y x => m ((c.tc : Thread nD τ).loc main_arg3) (ix3 0 y x))
    (fun l k => m ((c.tc : Thread nD τ).loc main_arg10) (ix2 l k)) (fun k => m ((c.tc : Thread nD τ).loc main_arg11) (ix1 k)) (m ((c.tc : Thread nD τ).loc main_arg12) ix0) n j
/-- The second sequence through the first layer. -/
def g3 (n : Fin 4096) (j : Fin 128) : EReal :=
  gcn (fun x l => m ((c.tc : Thread nD τ).loc main_arg1) (ix3 0 x l)) (fun y x => m ((c.tc : Thread nD τ).loc main_arg2) (ix3 0 y x))
    (fun l k => m ((c.tc : Thread nD τ).loc main_arg7) (ix2 l k)) (fun k => m ((c.tc : Thread nD τ).loc main_arg8) (ix1 k)) (m ((c.tc : Thread nD τ).loc main_arg9) ix0) n j
/-- The second sequence through the second layer. -/
def g4 (n : Fin 4096) (j : Fin 128) : EReal :=
  gcn (fun x l => m ((c.tc : Thread nD τ).loc main_arg1) (ix3 0 x l)) (fun y x => m ((c.tc : Thread nD τ).loc main_arg3) (ix3 0 y x))
    (fun l k => m ((c.tc : Thread nD τ).loc main_arg10) (ix2 l k)) (fun k => m ((c.tc : Thread nD τ).loc main_arg11) (ix1 k)) (m ((c.tc : Thread nD τ).loc main_arg12) ix0) n j
/-- The mask. -/
def mu (n : Fin 4096) : EReal := m ((c.tc : Thread nD τ).loc main_arg4) (ix2 0 n)

/-! ## The hidden arrays -/

/-- A row block of the kernel's first hidden array (first features, adjacency), entry by entry: row `i` of block `p` is node `256 p + i`. -/
theorem hb1_apply (p : ℕ) (hp : p < 16) (i : Fin 256) (j : Fin 128) :
    hb1 m c (pt p hp) (ix2 i j) = g1 m c ⟨256 * p + i.val, by omega⟩ j := by
  unfold hb1
  rw [blkH1_apply, read8, read6]
  simp only [read0, FA, feat1_lo, read2, read4]
  rfl

/-- A row block of the kernel's second hidden array (first features, diffusion), entry by entry: row `i` of block `p` is node `256 p + i`. -/
theorem hb2_apply (p : ℕ) (hp : p < 16) (i : Fin 256) (j : Fin 128) :
    hb2 m c (pt p hp) (ix2 i j) = g2 m c ⟨256 * p + i.val, by omega⟩ j := by
  unfold hb2
  rw [blkH2_apply, read9, read7]
  simp only [read1, FD, feat2_lo, read2, read5]
  rfl

/-- A row block of the kernel's third hidden array (second features, adjacency), entry by entry: row `i` of block `p` is node `256 p + i`. -/
theorem hb3_apply (p : ℕ) (hp : p < 16) (i : Fin 256) (j : Fin 128) :
    hb3 m c (pt p hp) (ix2 i j) = g3 m c ⟨256 * p + i.val, by omega⟩ j := by
  unfold hb3
  rw [blkH3_apply, read8, read6]
  simp only [read0, FA, feat1_hi, read3, read4]
  rfl

/-- A row block of the kernel's fourth hidden array (second features, diffusion), entry by entry: row `i` of block `p` is node `256 p + i`. -/
theorem hb4_apply (p : ℕ) (hp : p < 16) (i : Fin 256) (j : Fin 128) :
    hb4 m c (pt p hp) (ix2 i j) = g4 m c ⟨256 * p + i.val, by omega⟩ j := by
  unfold hb4
  rw [blkH4_apply, read9, read7]
  simp only [read1, FD, feat2_hi, read3, read5]
  rfl

/-- Row `n` of the stacked blocks is row `n % 256` of block `n / 256`. -/
theorem stack_apply (B : Fin cfg0.N → Vec Ideal S256x128 .f32) (n : Fin 4096) (j : Fin 128) :
    stack B (ix2 n j) = B (pt (n.val / 256) (by omega)) (ix2 ⟨n.val % 256, Nat.mod_lt _ (by decide)⟩ j) := by
  unfold stack
  congr 1
  funext a
  match a with
  | ⟨0, _⟩ => rfl
  | ⟨1, _⟩ => rfl

/-- If block `p`'s rows are `g`'s rows from `256 p` on, the stacked blocks are `g`. -/
theorem stack_eq (B : Fin cfg0.N → Vec Ideal S256x128 .f32) (g : Fin 4096 → Fin 128 → EReal)
    (hB : ∀ (p : ℕ) (hp : p < 16) (i : Fin 256) (j : Fin 128), B (pt p hp) (ix2 i j) = g ⟨256 * p + i.val, by omega⟩ j)
    (n : Fin 4096) (j : Fin 128) : stack B (ix2 n j) = g n j := by
  rw [stack_apply, hB]
  exact congrArg (fun k => g k j) (Fin.ext (Nat.div_add_mod n.val 256))

/-! ## The masked sums -/

/-- The masked entries of column `j` of `g`, numbered from 0, and 0 past the last row. -/
def term (g : Fin 4096 → Fin 128 → EReal) (j : Fin 128) (n : ℕ) : EReal :=
  if h : n < 4096 then mu m c ⟨n, h⟩ * g ⟨n, h⟩ j else 0

/-- A row block's masked sum, as a sum over the numbers of its rows. -/
theorem sum_block (g : Fin 4096 → Fin 128 → EReal) (j : Fin 128) (p : ℕ) (hp : p < 16) :
    (∑ x : Fin 256, mu m c ⟨256 * p + x.val, by omega⟩ * g ⟨256 * p + x.val, by omega⟩ j)
      = ∑ x ∈ Finset.range 256, term m c g j (256 * p + x) := by
  rw [Finset.sum_range]
  refine Finset.sum_congr rfl fun x _ => ?_
  unfold term
  rw [dif_pos (by omega)]

/-- Row 0 of a block's masked column sums, as a sum over its 256 nodes. -/
theorem part_fst (p : ℕ) (hp : p < 16) (j : Fin 128) :
    part m c p hp (ix2 0 j) = ∑ x ∈ Finset.range 256, term m c (g1 m c) j (256 * p + x) := by
  rw [← sum_block m c _ j p hp]
  unfold part
  rw [partSum_fst]
  refine Finset.sum_congr rfl fun x _ => ?_
  rw [mskAt_apply, read10]
  exact congrArg _ (hb1_apply m c p hp x j)

/-- Row 0 of the column sums after block `p` is the sum over the first `256 (p + 1)` nodes. -/
theorem sumAt_fst (j : Fin 128) : ∀ (p : ℕ) (hp : p < 16),
    sumAt m c p hp (ix2 0 j) = ∑ n ∈ Finset.range (256 * (p + 1)), term m c (g1 m c) j n
  | 0, hp => by
    rw [sumAt, part_fst]
    exact Finset.sum_congr rfl fun x _ => congrArg _ (by omega)
  | p + 1, hp => by
    rw [show 256 * (p + 1 + 1) = 256 * (p + 1) + 256 by omega, Finset.sum_range_add, ← sumAt_fst j p (by omega),
      ← part_fst m c (p + 1) hp j]
    rfl

/-- Row 1 of a block's masked column sums, as a sum over its 256 nodes. -/
theorem part_snd (p : ℕ) (hp : p < 16) (j : Fin 128) :
    part m c p hp (ix2 1 j) = ∑ x ∈ Finset.range 256, term m c (g2 m c) j (256 * p + x) := by
  rw [← sum_block m c _ j p hp]
  unfold part
  rw [partSum_snd]
  refine Finset.sum_congr rfl fun x _ => ?_
  rw [mskAt_apply, read10]
  exact congrArg _ (hb2_apply m c p hp x j)

/-- Row 1 of the column sums after block `p` is the sum over the first `256 (p + 1)` nodes. -/
theorem sumAt_snd (j : Fin 128) : ∀ (p : ℕ) (hp : p < 16),
    sumAt m c p hp (ix2 1 j) = ∑ n ∈ Finset.range (256 * (p + 1)), term m c (g2 m c) j n
  | 0, hp => by
    rw [sumAt, part_snd]
    exact Finset.sum_congr rfl fun x _ => congrArg _ (by omega)
  | p + 1, hp => by
    rw [show 256 * (p + 1 + 1) = 256 * (p + 1) + 256 by omega, Finset.sum_range_add, ← sumAt_snd j p (by omega),
      ← part_snd m c (p + 1) hp j]
    rfl

/-- After sixteen blocks the sum is over all nodes. -/
theorem sum_term (g : Fin 4096 → Fin 128 → EReal) (j : Fin 128) :
    ∑ n ∈ Finset.range (256 * (15 + 1)), term m c g j n = ∑ n : Fin 4096, g n j * mu m c n := by
  rw [Finset.sum_range]
  refine Finset.sum_congr rfl fun n _ => ?_
  unfold term
  rw [dif_pos (by omega), mul_comm]

/-! ## The summaries and the scores -/

/-- The kernel's first summary is the logistic of the first hidden array's masked mean. -/
theorem summary_fst (t : Fin cfg0.N) (k : Fin 128) :
    summaryOf (fun k => sumAt m c 15 (by decide) (ix2 0 k)) (iblk m c 10 t) k = summary (g1 m c) (mu m c) k := by
  unfold summaryOf summary
  dsimp only
  rw [sumAt_fst, sum_term]
  simp only [read10]
  rfl

/-- The kernel's second summary is the logistic of the second hidden array's masked mean. -/
theorem summary_snd (t : Fin cfg0.N) (k : Fin 128) :
    summaryOf (fun k => sumAt m c 15 (by decide) (ix2 1 k)) (iblk m c 10 t) k = summary (g2 m c) (mu m c) k := by
  unfold summaryOf summary
  dsimp only
  rw [sumAt_snd, sum_term]
  simp only [read10]
  rfl

/-- The kernel's four score columns in closed form, in terms of the arguments. -/
theorem scoresAt_apply (t : Fin cfg0.N) (n : Fin 4096) (q : Fin 4) :
    scoresAt m c t (ix2 n q)
      = if q.val < 1 then weightFirst (fun j k => m ((c.tc : Thread nD τ).loc main_arg13) (ix2 j k)) (g2 m c n) (summary (g1 m c) (mu m c)) + m ((c.tc : Thread nD τ).loc main_arg14) (ix1 0) + m ((c.tc : Thread nD τ).loc main_arg5) (ix2 0 n)
        else if q.val < 2 then weightFirst (fun j k => m ((c.tc : Thread nD τ).loc main_arg13) (ix2 j k)) (g1 m c n) (summary (g2 m c) (mu m c)) + m ((c.tc : Thread nD τ).loc main_arg14) (ix1 0) + m ((c.tc : Thread nD τ).loc main_arg6) (ix2 0 n)
        else if q.val < 3 then weightFirst (fun j k => m ((c.tc : Thread nD τ).loc main_arg13) (ix2 j k)) (g4 m c n) (summary (g1 m c) (mu m c)) + m ((c.tc : Thread nD τ).loc main_arg14) (ix1 0)
        else weightFirst (fun j k => m ((c.tc : Thread nD τ).loc main_arg13) (ix2 j k)) (g3 m c n) (summary (g2 m c) (mu m c)) + m ((c.tc : Thread nD τ).loc main_arg14) (ix1 0) := by
  unfold scoresAt
  rw [scores_apply]
  have e1 : summaryOf (fun k => sumAt m c 15 (by decide) (ix2 0 k)) (iblk m c 10 t) = summary (g1 m c) (mu m c) :=
    funext fun k => summary_fst m c t k
  have e2 : summaryOf (fun k => sumAt m c 15 (by decide) (ix2 1 k)) (iblk m c 10 t) = summary (g2 m c) (mu m c) :=
    funext fun k => summary_snd m c t k
  rw [e1, e2]
  simp only [stack_eq _ _ (hb1_apply m c), stack_eq _ _ (hb2_apply m c), stack_eq _ _ (hb3_apply m c),
    stack_eq _ _ (hb4_apply m c), read11, read12, read13, read14]

end Cert.KernelIdeal.Body

end
-- ==== Proof.Ref.lean ====
module

public import proofs.«01_k».proof.Proof.Gen.ReferenceIdeal.Run
public import Idealize.ShloMosaic.PureOps.Ideal
public import Idealize.ShloMosaic.Lib.Claim

@[expose] public section

set_option maxRecDepth 16384

noncomputable section

namespace Cert.ReferenceIdeal.Body

open Cert.ReferenceIdeal Cert.ReferenceIdeal.Gen
open Idealize.ShloMosaic Idealize.ShloMosaic.TcCoe Idealize.SL.Sem

/-! ## The reference's arrays, as functions of its arguments -/

/-- One layer before its activation: `adj · (seq · w) + b`. -/
def layerLin (seq : FVec Ideal S1x4096x128 .f32) (adj : FVec Ideal S1x4096x4096 .f32) (w : FVec Ideal S128x128 .f32)
    (b : FVec Ideal S128 .f32) : FVec Ideal S1x4096x128 .f32 :=
  addf (Host.dotGeneral dot_S1x4096x4096_S1x4096x128_S1x4096x128_2_1_1_2_0_0 none adj
      (Host.dotGeneral dot_S1x4096x128_S128x128_S1x4096x128_2_0_01_1_n_n none seq w))
    (broadcastInDim S1x4096x128 ![0, 1, 2] bcast_S1x1x128_S1x4096x128_0_1_2 (broadcastInDim S1x1x128 ![2] bcast_S128_S1x1x128_2 b))

/-- The activation: `x` where it is nonnegative, `a * x` elsewhere. -/
def act (a : FVec Ideal S_ .f32) (x : FVec Ideal S1x4096x128 .f32) : FVec Ideal S1x4096x128 .f32 :=
  select (cmpf .oge x (broadcastInDim S1x4096x128 ![] bcast_S_S1x4096x128 (constant S_ .f32 0#32))) x
    (mulf (broadcastInDim S1x4096x128 ![] bcast_S_S1x4096x128 a) x)

/-- One layer. -/
def layer (seq : FVec Ideal S1x4096x128 .f32) (adj : FVec Ideal S1x4096x4096 .f32) (w : FVec Ideal S128x128 .f32)
    (b : FVec Ideal S128 .f32) (a : FVec Ideal S_ .f32) : FVec Ideal S1x4096x128 .f32 := act a (layerLin seq adj w b)

/-- The masked mean of `h` over the nodes. -/
def mean (h : FVec Ideal S1x4096x128 .f32) (msk : FVec Ideal S1x4096 .f32) : FVec Ideal S1x128 .f32 :=
  Host.divf
    (Host.reduceAdd (mulf h (broadcastInDim S1x4096x128 ![0, 1, 2] bcast_S1x4096x1_S1x4096x128_0_1_2
      (broadcastInDim S1x4096x1 ![0, 1] bcast_S1x4096_S1x4096x1_0_1 msk))) (constant S_ .f32 0#32) reducesTo_S1x4096x128_S1x128_d1 h_S_)
    (broadcastInDim S1x128 ![] bcast_S_S1x128
      (Host.reduceAdd (broadcastInDim S1x4096x1 ![0, 1] bcast_S1x4096_S1x4096x1_0_1 msk) (constant S_ .f32 0#32) reducesTo_S1x4096x1_S_d0_1_2 h_S_))

/-- The logistic function of each entry. -/
def squash (x : FVec Ideal S1x128 .f32) : FVec Ideal S1x128 .f32 :=
  Host.divf (broadcastInDim S1x128 ![] bcast_S_S1x128 (constant S_ .f32 1065353216#32))
    (addf (broadcastInDim S1x128 ![] bcast_S_S1x128 (constant S_ .f32 1065353216#32)) (Host.exp (Host.negf x)))

/-- The summary `c` repeated for every node. -/
def spread (c : FVec Ideal S1x128 .f32) : FVec Ideal S1x4096x128 .f32 :=
  broadcastInDim S1x4096x128 ![0, 1, 2] bcast_S1x1x128_S1x4096x128_0_1_2 (broadcastInDim S1x1x128 ![0, 2] bcast_S1x128_S1x1x128_0_2 c)

/-- The bilinear score of every node against the summary. -/
def bilin (wb : FVec Ideal S128x128 .f32) (bb : FVec Ideal S1 .f32) (h : FVec Ideal S1x4096x128 .f32) (c : FVec Ideal S1x128 .f32) :
    FVec Ideal S1x4096 .f32 :=
  addf (Host.dotGeneral dot_S1x4096x128_S128x1x4096_S1x4096_2_0_n_n_01_12 none (spread c)
      (Host.dotGeneral dot_S128x128_S1x4096x128_S128x1x4096_0_2_1_01_n_n none wb h))
    (broadcastInDim S1x4096 ![0, 1] bcast_S1x1_S1x4096_0_1 (broadcastInDim S1x1 ![1] bcast_S1_S1x1_1 bb))

/-- Four rows of scores, one after the other. -/
def joined (x y z w : FVec Ideal S1x4096 .f32) : FVec Ideal S1x16384 .f32 :=
  concatenate S1x16384 1 [⟨S1x4096, x⟩, ⟨S1x4096, y⟩, ⟨S1x4096, z⟩, ⟨S1x4096, w⟩]
    concatenates_S1x4096_S1x4096_S1x4096_S1x4096_S1x16384_d1

variable (m : (ℓ : Loc nD τ sig) → Buf (Elt Ideal) ℓ) (ρ : Dev nD → PrngReg)

/-- The first layer's output on the first sequence. -/
def H1 (c : Dev nD) : FVec Ideal S1x4096x128 .f32 :=
  layer (m ((c.tc : Thread nD τ).loc main_arg0)) (m ((c.tc : Thread nD τ).loc main_arg2)) (m ((c.tc : Thread nD τ).loc main_arg7))
    (m ((c.tc : Thread nD τ).loc main_arg8)) (m ((c.tc : Thread nD τ).loc main_arg9))
/-- The second layer's output on the first sequence. -/
def H2 (c : Dev nD) : FVec Ideal S1x4096x128 .f32 :=
  layer (m ((c.tc : Thread nD τ).loc main_arg0)) (m ((c.tc : Thread nD τ).loc main_arg3)) (m ((c.tc : Thread nD τ).loc main_arg10))
    (m ((c.tc : Thread nD τ).loc main_arg11)) (m ((c.tc : Thread nD τ).loc main_arg12))
/-- The first layer's output on the second sequence. -/
def H3 (c : Dev nD) : FVec Ideal S1x4096x128 .f32 :=
  layer (m ((c.tc : Thread nD τ).loc main_arg1)) (m ((c.tc : Thread nD τ).loc main_arg2)) (m ((c.tc : Thread nD τ).loc main_arg7))
    (m ((c.tc : Thread nD τ).loc main_arg8)) (m ((c.tc : Thread nD τ).loc main_arg9))
/-- The second layer's output on the second sequence. -/
def H4 (c : Dev nD) : FVec Ideal S1x4096x128 .f32 :=
  layer (m ((c.tc : Thread nD τ).loc main_arg1)) (m ((c.tc : Thread nD τ).loc main_arg3)) (m ((c.tc : Thread nD τ).loc main_arg10))
    (m ((c.tc : Thread nD τ).loc main_arg11)) (m ((c.tc : Thread nD τ).loc main_arg12))
/-- The first summary. -/
def C1 (c : Dev nD) : FVec Ideal S1x128 .f32 := squash (mean (H1 m c) (m ((c.tc : Thread nD τ).loc main_arg4)))
/-- The second summary. -/
def C2 (c : Dev nD) : FVec Ideal S1x128 .f32 := squash (mean (H2 m c) (m ((c.tc : Thread nD τ).loc main_arg4)))
/-- The scores. -/
def logits (c : Dev nD) : FVec Ideal S1x16384 .f32 :=
  joined
    (addf (bilin (m ((c.tc : Thread nD τ).loc main_arg13)) (m ((c.tc : Thread nD τ).loc main_arg14)) (H2 m c) (C1 m c)) (m ((c.tc : Thread nD τ).loc main_arg5)))
    (addf (bilin (m ((c.tc : Thread nD τ).loc main_arg13)) (m ((c.tc : Thread nD τ).loc main_arg14)) (H1 m c) (C2 m c)) (m ((c.tc : Thread nD τ).loc main_arg6)))
    (bilin (m ((c.tc : Thread nD τ).loc main_arg13)) (m ((c.tc : Thread nD τ).loc main_arg14)) (H4 m c) (C1 m c))
    (bilin (m ((c.tc : Thread nD τ).loc main_arg13)) (m ((c.tc : Thread nD τ).loc main_arg14)) (H3 m c) (C2 m c))

set_option maxHeartbeats 40000000 in
/-- The reference runs; its results are the scores and the first two layer outputs; its arguments stay as they were. -/
theorem run : θ_run (defs (F := Ideal)) (onTc (τ := τ) (main (F := Ideal)))
    ⟨m, fun _ => 0, ρ⟩ (fun r => ∀ c : Dev nD,
      r.2.mem ((c.tc : Thread nD τ).loc main_v92) = logits m c
      ∧ r.2.mem ((c.tc : Thread nD τ).loc main_v9) = H1 m c
      ∧ r.2.mem ((c.tc : Thread nD τ).loc main_v32) = H2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run (defs (F := Ideal)) _ _).mono (fun r h c => ?_) (Cert.ReferenceIdeal.Value.run (F := Ideal) m ρ)
  obtain ⟨h92, h9, h32, hargs⟩ := h c
  refine ⟨h92.trans ?_, h9.trans ?_, h32.trans ?_, hargs⟩
  · unfold Cert.ReferenceIdeal.Value.res_main_v92
    rfl
  · rfl
  · rfl

/-- The reference leaves its arguments as they were and every counter at zero. -/
theorem frame : θ_run (defs (F := Ideal)) (onTc (τ := τ) (main (F := Ideal)))
    ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run (defs (F := Ideal)) _ _).mono (fun r h => ⟨fun c => (h c).2.2.2, sem_eq_zero_of_no_sems (by decide) r.2⟩) (run m ρ)

end Cert.ReferenceIdeal.Body

end
-- ==== Proof.RefMath.lean ====
module

public import proofs.«01_k».proof.Proof.Ref
public import proofs.«01_k».proof.Proof.Math
public import Idealize.ShloMosaic.Lib.Pipeline.ValueKit

@[expose] public section

set_option maxRecDepth 16384

noncomputable section

/-! The reference's arrays, entry by entry. -/

namespace Cert.ReferenceIdeal.Body

open Cert.ReferenceIdeal Cert.ReferenceIdeal.Gen Cert.GraphConv
open Idealize.ShloMosaic Idealize.ShloMosaic.TcCoe Idealize.SL.Sem

/-- A layer's entry is the graph convolution's. -/
theorem layer_apply (seq : FVec Ideal S1x4096x128 .f32) (adj : FVec Ideal S1x4096x4096 .f32) (w : FVec Ideal S128x128 .f32)
    (b : FVec Ideal S128 .f32) (a : FVec Ideal S_ .f32) (n : Fin 4096) (j : Fin 128) :
    layer seq adj w b a (ix3 0 n j) = gcn (fun x l => seq (ix3 0 x l)) (fun y x => adj (ix3 0 y x)) (fun l k => w (ix2 l k))
      (fun k => b (ix1 k)) (a ix0) n j := by
  unfold layer act layerLin
  pointwise
  rfl

/-- A summary's entry. -/
theorem summary_apply (h : FVec Ideal S1x4096x128 .f32) (msk : FVec Ideal S1x4096 .f32) (j : Fin 128) :
    squash (mean h msk) (ix2 0 j) = summary (fun n k => h (ix3 0 n k)) (fun n => msk (ix2 0 n)) j := by
  unfold squash mean
  pointwise
  simp only [Finset.univ_unique, Finset.sum_singleton]
  rfl

/-- A score's entry. -/
theorem bilin_apply (wb : FVec Ideal S128x128 .f32) (bb : FVec Ideal S1 .f32) (h : FVec Ideal S1x4096x128 .f32)
    (c : FVec Ideal S1x128 .f32) (n : Fin 4096) :
    bilin wb bb h c (ix2 0 n) = featFirst (fun j k => wb (ix2 j k)) (fun j => h (ix3 0 n j)) (fun k => c (ix2 0 k)) + bb (ix1 0) := by
  unfold bilin spread
  pointwise
  rfl

end Cert.ReferenceIdeal.Body

end
-- ==== Proof.Finite.lean ====
module

public import proofs.«01_k».proof.Proof.Gen.Pre_finite
public import proofs.«01_k».proof.Proof.Math
public import Idealize.ShloMosaic.PureOps.Ideal
public import Idealize.ShloMosaic.Lib.ReduceAll
public import Idealize.ShloMosaic.Lib.Pipeline.ValueKit

/-! The precondition read back: where its one result is 1, every entry of the eleven arrays it names is a real number. -/

@[expose] public section

set_option maxRecDepth 16384

noncomputable section

namespace Cert.Pre_finite

open Cert.Pre_finite.Gen Cert.GraphConv
open Idealize.ShloMosaic

/-- A value whose absolute value compares below infinity is a real number. -/
theorem isFin_of_abs_lt (x : EReal) (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- The test of a whole array, read back. -/
theorem all_isFin {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsFin (x i) :=
  isFin_of_abs_lt (x i) (Host.reduce_andi_all _ _ hr hu j h i)

/-- The test of a single number, read back. -/
theorem one_isFin {axes : List (Fin S_.rank)} (x : FVec Ideal S_ .f32) (hr : S_.ReducesTo axes S_) (hu : 0 < S_.numel) (j : S_.Idx)
    (h : Host.reduce IntOp.andi (cmpf .olt (Host.absf x) (constant S_ .f32 0x7F800000#32)) (constantI S_ 1 1#1) hr hu j = 1#1)
    (i : S_.Idx) : IsFin (x i) :=
  isFin_of_abs_lt (x i) (Host.reduce_andi_all _ _ hr hu j h i)

/-- What the precondition says of the arguments. -/
theorem isFin_of_fn {a0 a1 : FVec Ideal S1x4096x128 .f32} {a2 a3 : FVec Ideal S1x4096x4096 .f32} {a4 a5 a6 : FVec Ideal S1x4096 .f32}
    {a7 : FVec Ideal S128x128 .f32} {a8 : FVec Ideal S128 .f32} {a9 : FVec Ideal S_ .f32} {a10 : FVec Ideal S128x128 .f32}
    {a11 : FVec Ideal S128 .f32} {a12 : FVec Ideal S_ .f32} {a13 : FVec Ideal S128x128 .f32} {a14 : FVec Ideal S1 .f32}
    (h : fn (F := Ideal) a0 a1 a2 a3 a4 a5 a6 a7 a8 a9 a10 a11 a12 a13 a14 = fun _ => 1#1) :
    (∀ i, IsFin (a0 i)) ∧ (∀ i, IsFin (a1 i)) ∧ (∀ i, IsFin (a2 i)) ∧ (∀ i, IsFin (a3 i)) ∧ (∀ i, IsFin (a7 i)) ∧ (∀ i, IsFin (a8 i))
      ∧ (∀ i, IsFin (a9 i)) ∧ (∀ i, IsFin (a10 i)) ∧ (∀ i, IsFin (a11 i)) ∧ (∀ i, IsFin (a12 i)) ∧ (∀ i, IsFin (a13 i)) := by
  have h := congrFun h ix0
  dsimp only [fn, fn_part1, fn_part2, fn_part3] at h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_isFin _ _ _ _ _ h0, all_isFin _ _ _ _ _ h1, all_isFin _ _ _ _ _ h2, all_isFin _ _ _ _ _ h3, all_isFin _ _ _ _ _ h7,
    all_isFin _ _ _ _ _ h8, one_isFin _ _ _ _ h9, all_isFin _ _ _ _ _ h10, all_isFin _ _ _ _ _ h11, one_isFin _ _ _ _ h12,
    all_isFin _ _ _ _ _ h13⟩

end Cert.Pre_finite

end
-- ==== Proof.Equal.lean ====
module

public import proofs.«01_k».proof.Defs
public import proofs.«01_k».proof.Proof.KValue
public import proofs.«01_k».proof.Proof.RefMath
public import proofs.«01_k».proof.Proof.Finite

/-! The two programs' results from the same arguments: the kernel's arrays and the reference's, entry by entry. -/

@[expose] public section

set_option maxRecDepth 16384

noncomputable section

namespace Cert.Proof

open Cert.GraphConv Cert.KernelIdeal.Body Cert.ReferenceIdeal.Body
open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on device `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

variable {m m' c}

/-- From agreeing arguments the reference's first hidden array (first features, adjacency) is the graph convolution of the kernel's arguments. -/
theorem H1_apply (h : Agree m m' c) (n : Fin 4096) (j : Fin 128) : H1 m' c (ix3 0 n j) = g1 m c n j := by
  obtain ⟨e0, e1, e2, e3, e4, e5, e6, e7, e8, e9, e10, e11, e12, e13, e14⟩ := h
  unfold H1
  rw [layer_apply, e0, e2, e7, e8, e9]
  rfl

/-- From agreeing arguments the reference's second hidden array (first features, diffusion) is the graph convolution of the kernel's arguments. -/
theorem H2_apply (h : Agree m m' c) (n : Fin 4096) (j : Fin 128) : H2 m' c (ix3 0 n j) = g2 m c n j := by
  obtain ⟨e0, e1, e2, e3, e4, e5, e6, e7, e8, e9, e10, e11, e12, e13, e14⟩ := h
  unfold H2
  rw [layer_apply, e0, e3, e10, e11, e12]
  rfl

/-- From agreeing arguments the reference's third hidden array (second features, adjacency) is the graph convolution of the kernel's arguments. -/
theorem H3_apply (h : Agree m m' c) (n : Fin 4096) (j : Fin 128) : H3 m' c (ix3 0 n j) = g3 m c n j := by
  obtain ⟨e0, e1, e2, e3, e4, e5, e6, e7, e8, e9, e10, e11, e12, e13, e14⟩ := h
  unfold H3
  rw [layer_apply, e1, e2, e7, e8, e9]
  rfl

/-- From agreeing arguments the reference's fourth hidden array (second features, diffusion) is the graph convolution of the kernel's arguments. -/
theorem H4_apply (h : Agree m m' c) (n : Fin 4096) (j : Fin 128) : H4 m' c (ix3 0 n j) = g4 m c n j := by
  obtain ⟨e0, e1, e2, e3, e4, e5, e6, e7, e8, e9, e10, e11, e12, e13, e14⟩ := h
  unfold H4
  rw [layer_apply, e1, e3, e10, e11, e12]
  rfl

/-- The reference's first summary, of its first hidden array. -/
theorem C1_apply (h : Agree m m' c) (k : Fin 128) : C1 m' c (ix2 0 k) = summary (g1 m c) (mu m c) k := by
  have eh : (fun n k => H1 m' c (ix3 0 n k)) = g1 m c := funext fun n => funext fun k => H1_apply h n k
  obtain ⟨e0, e1, e2, e3, e4, e5, e6, e7, e8, e9, e10, e11, e12, e13, e14⟩ := h
  unfold C1
  rw [summary_apply, eh, e4]
  rfl

/-- The reference's second summary, of its second hidden array. -/
theorem C2_apply (h : Agree m m' c) (k : Fin 128) : C2 m' c (ix2 0 k) = summary (g2 m c) (mu m c) k := by
  have eh : (fun n k => H2 m' c (ix3 0 n k)) = g2 m c := funext fun n => funext fun k => H2_apply h n k
  obtain ⟨e0, e1, e2, e3, e4, e5, e6, e7, e8, e9, e10, e11, e12, e13, e14⟩ := h
  unfold C2
  rw [summary_apply, eh, e4]
  rfl

/-- A bilinear score of the reference, from its node features and its summary. -/
theorem score_apply (h : Agree m m' c) {H : FVec Ideal Cert.ReferenceIdeal.S1x4096x128 .f32} {C : FVec Ideal Cert.ReferenceIdeal.S1x128 .f32}
    {g : Fin 4096 → Fin 128 → EReal} {s : Fin 128 → EReal} (hH : ∀ n j, H (ix3 0 n j) = g n j) (hC : ∀ k, C (ix2 0 k) = s k) (n : Fin 4096) :
    bilin (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) H C (ix2 0 n)
      = featFirst (fun j k => m ((c.tc : Thread Cert.KernelIdeal.nD Cert.KernelIdeal.τ).loc Cert.KernelIdeal.main_arg13) (ix2 j k)) (g n) s + m ((c.tc : Thread Cert.KernelIdeal.nD Cert.KernelIdeal.τ).loc Cert.KernelIdeal.main_arg14) (ix1 0) := by
  obtain ⟨e0, e1, e2, e3, e4, e5, e6, e7, e8, e9, e10, e11, e12, e13, e14⟩ := h
  rw [bilin_apply, e13, e14]
  simp only [hH, hC]

/-- Four score rows one after the other, as the concatenation looks an entry up: piece by piece. -/
theorem joined_raw (x y z w : FVec Ideal Cert.ReferenceIdeal.S1x4096 .f32) (n : Fin 16384) :
    joined x y z w (ix2 0 n)
      = if h : n.val < 4096 then x (ix2 0 ⟨n.val, h⟩)
        else if h : n.val - 4096 < 4096 then y (ix2 0 ⟨n.val - 4096, h⟩)
        else if h : n.val - 4096 - 4096 < 4096 then z (ix2 0 ⟨n.val - 4096 - 4096, h⟩)
        else w (ix2 0 ⟨n.val - 4096 - 4096 - 4096, by omega⟩) := by
  unfold joined
  pointwise

/-- The reference's scores are its four score rows one after the other. -/
theorem joined_apply (x y z w : FVec Ideal Cert.ReferenceIdeal.S1x4096 .f32) (n : Fin 16384) :
    joined x y z w (ix2 0 n)
      = if n.val / 4096 < 1 then x (ix2 0 ⟨n.val % 4096, by omega⟩)
        else if n.val / 4096 < 2 then y (ix2 0 ⟨n.val % 4096, by omega⟩)
        else if n.val / 4096 < 3 then z (ix2 0 ⟨n.val % 4096, by omega⟩)
        else w (ix2 0 ⟨n.val % 4096, by omega⟩) := by
  rw [joined_raw]
  have hn := n.isLt
  by_cases h0 : n.val < 4096
  · rw [dif_pos h0, if_pos (by omega)]
    exact congrArg (fun k => x (ix2 0 k)) (Fin.ext (show n.val = n.val % 4096 by omega))
  rw [dif_neg h0, if_neg (by omega)]
  by_cases h1 : n.val - 4096 < 4096
  · rw [dif_pos h1, if_pos (by omega)]
    exact congrArg (fun k => y (ix2 0 k)) (Fin.ext (show n.val - 4096 = n.val % 4096 by omega))
  rw [dif_neg h1, if_neg (by omega)]
  by_cases h2 : n.val - 4096 - 4096 < 4096
  · rw [dif_pos h2, if_pos (by omega)]
    exact congrArg (fun k => z (ix2 0 k)) (Fin.ext (show n.val - 4096 - 4096 = n.val % 4096 by omega))
  rw [dif_neg h2, if_neg (by omega)]
  exact congrArg (fun k => w (ix2 0 k)) (Fin.ext (show n.val - 4096 - 4096 - 4096 = n.val % 4096 by omega))

/-- A sum of two score rows, entry by entry. -/
theorem add_apply (x y : FVec Ideal Cert.ReferenceIdeal.S1x4096 .f32) (n : Fin 4096) : addf x y (ix2 0 n) = x (ix2 0 n) + y (ix2 0 n) := rfl

/-- The kernel's first result is its four score columns one after the other. -/
theorem scores_out (x : FVec Ideal Cert.KernelIdeal.S4096x4 .f32) (n : Fin 16384) :
    shapeCast Cert.KernelIdeal.S1x16384 (transpose Cert.KernelIdeal.S4x4096 [1, 0] x Cert.KernelIdeal.Gen.transposes_S4096x4_S4x4096_1_0) Cert.KernelIdeal.Gen.shapeCasts_S4x4096_S1x16384 (ix2 0 n)
      = x (ix2 ⟨n.val % 4096, by omega⟩ ⟨n.val / 4096, by omega⟩) := by
  pointwise

/-- The kernel's other results are its hidden arrays with one more axis. -/
theorem hidden_out (x : FVec Ideal Cert.KernelIdeal.S4096x128 .f32) (n : Fin 4096) (j : Fin 128) :
    shapeCast Cert.KernelIdeal.S1x4096x128 x Cert.KernelIdeal.Gen.shapeCasts_S4096x128_S1x4096x128 (ix3 0 n j) = x (ix2 n j) := by
  pointwise

/-! ## The precondition at work -/

/-- The arrays whose entries the precondition makes real numbers, on device `c`. -/
def AllFin (m : (ℓ : Loc Cert.KernelIdeal.nD Cert.KernelIdeal.τ Cert.KernelIdeal.sig) → Buf (Elt Ideal) ℓ) (c : Dev Cert.KernelIdeal.nD) : Prop :=
  (∀ i, IsFin ((m ((c.tc : Thread Cert.KernelIdeal.nD Cert.KernelIdeal.τ).loc Cert.KernelIdeal.main_arg0) : FVec Ideal Cert.KernelIdeal.S1x4096x128 .f32) i))
  ∧ (∀ i, IsFin ((m ((c.tc : Thread Cert.KernelIdeal.nD Cert.KernelIdeal.τ).loc Cert.KernelIdeal.main_arg1) : FVec Ideal Cert.KernelIdeal.S1x4096x128 .f32) i))
  ∧ (∀ i, IsFin ((m ((c.tc : Thread Cert.KernelIdeal.nD Cert.KernelIdeal.τ).loc Cert.KernelIdeal.main_arg2) : FVec Ideal Cert.KernelIdeal.S1x4096x4096 .f32) i))
  ∧ (∀ i, IsFin ((m ((c.tc : Thread Cert.KernelIdeal.nD Cert.KernelIdeal.τ).loc Cert.KernelIdeal.main_arg3) : FVec Ideal Cert.KernelIdeal.S1x4096x4096 .f32) i))
  ∧ (∀ i, IsFin ((m ((c.tc : Thread Cert.KernelIdeal.nD Cert.KernelIdeal.τ).loc Cert.KernelIdeal.main_arg7) : FVec Ideal Cert.KernelIdeal.S128x128 .f32) i))
  ∧ (∀ i, IsFin ((m ((c.tc : Thread Cert.KernelIdeal.nD Cert.KernelIdeal.τ).loc Cert.KernelIdeal.main_arg8) : FVec Ideal Cert.KernelIdeal.S128 .f32) i))
  ∧ (∀ i, IsFin ((m ((c.tc : Thread Cert.KernelIdeal.nD Cert.KernelIdeal.τ).loc Cert.KernelIdeal.main_arg9) : FVec Ideal Cert.KernelIdeal.S_ .f32) i))
  ∧ (∀ i, IsFin ((m ((c.tc : Thread Cert.KernelIdeal.nD Cert.KernelIdeal.τ).loc Cert.KernelIdeal.main_arg10) : FVec Ideal Cert.KernelIdeal.S128x128 .f32) i))
  ∧ (∀ i, IsFin ((m ((c.tc : Thread Cert.KernelIdeal.nD Cert.KernelIdeal.τ).loc Cert.KernelIdeal.main_arg11) : FVec Ideal Cert.KernelIdeal.S128 .f32) i))
  ∧ (∀ i, IsFin ((m ((c.tc : Thread Cert.KernelIdeal.nD Cert.KernelIdeal.τ).loc Cert.KernelIdeal.main_arg12) : FVec Ideal Cert.KernelIdeal.S_ .f32) i))
  ∧ (∀ i, IsFin ((m ((c.tc : Thread Cert.KernelIdeal.nD Cert.KernelIdeal.τ).loc Cert.KernelIdeal.main_arg13) : FVec Ideal Cert.KernelIdeal.S128x128 .f32) i))

/-- The precondition says that the eleven arrays it names have finite entries. -/
theorem allFin (h : Cert.Pre_KernelIdeal_finite m) : AllFin m c := Cert.Pre_finite.isFin_of_fn (h c)

/-- Under the precondition the first hidden array (first features, adjacency) has finite entries. -/
theorem fin1 (h : AllFin m c) (n : Fin 4096) (j : Fin 128) : IsFin (g1 m c n j) := by
  obtain ⟨f0, f1, f2, f3, f7, f8, f9, f10, f11, f12, f13⟩ := h
  exact IsFin.gcn (fun _ _ => f0 _) (fun _ _ => f2 _) (fun _ _ => f7 _) (fun _ => f8 _) (f9 _) n j

/-- Under the precondition the second hidden array (first features, diffusion) has finite entries. -/
theorem fin2 (h : AllFin m c) (n : Fin 4096) (j : Fin 128) : IsFin (g2 m c n j) := by
  obtain ⟨f0, f1, f2, f3, f7, f8, f9, f10, f11, f12, f13⟩ := h
  exact IsFin.gcn (fun _ _ => f0 _) (fun _ _ => f3 _) (fun _ _ => f10 _) (fun _ => f11 _) (f12 _) n j

/-- Under the precondition the third hidden array (second features, adjacency) has finite entries. -/
theorem fin3 (h : AllFin m c) (n : Fin 4096) (j : Fin 128) : IsFin (g3 m c n j) := by
  obtain ⟨f0, f1, f2, f3, f7, f8, f9, f10, f11, f12, f13⟩ := h
  exact IsFin.gcn (fun _ _ => f1 _) (fun _ _ => f2 _) (fun _ _ => f7 _) (fun _ => f8 _) (f9 _) n j

/-- Under the precondition the fourth hidden array (second features, diffusion) has finite entries. -/
theorem fin4 (h : AllFin m c) (n : Fin 4096) (j : Fin 128) : IsFin (g4 m c n j) := by
  obtain ⟨f0, f1, f2, f3, f7, f8, f9, f10, f11, f12, f13⟩ := h
  exact IsFin.gcn (fun _ _ => f1 _) (fun _ _ => f3 _) (fun _ _ => f10 _) (fun _ => f11 _) (f12 _) n j

/-- Where the precondition holds, the kernel's order of the bilinear form gives the reference's value. -/
theorem form_eq (h : AllFin m c) {g g' : Fin 4096 → Fin 128 → EReal} (hg : ∀ n j, IsFin (g n j)) (n : Fin 4096) :
    weightFirst (fun j k => m ((c.tc : Thread Cert.KernelIdeal.nD Cert.KernelIdeal.τ).loc Cert.KernelIdeal.main_arg13) (ix2 j k)) (g n) (summary g' (mu m c))
      = featFirst (fun j k => m ((c.tc : Thread Cert.KernelIdeal.nD Cert.KernelIdeal.τ).loc Cert.KernelIdeal.main_arg13) (ix2 j k)) (g n) (summary g' (mu m c)) := by
  obtain ⟨f0, f1, f2, f3, f7, f8, f9, f10, f11, f12, f13⟩ := h
  exact weightFirst_eq (fun _ _ => f13 _) (hg n) (fun k => IsFin.summary g' (mu m c) k)

/-! ## The results are equal -/

/-- The scores are equal. This is the one equality that uses the precondition. -/
theorem eq_scores (h : AllFin m c) (ha : Agree m m' c) :
    shapeCast Cert.KernelIdeal.S1x16384 (transpose Cert.KernelIdeal.S4x4096 [1, 0] (scoresAt m c tL)
        Cert.KernelIdeal.Gen.transposes_S4096x4_S4x4096_1_0) Cert.KernelIdeal.Gen.shapeCasts_S4x4096_S1x16384
      = logits m' c := by
  funext y
  idx_vars y
  obtain rfl : y0 = 0 := Subsingleton.elim _ _
  have e5 := ha.2.2.2.2.2.1
  have e6 := ha.2.2.2.2.2.2.1
  rw [scores_out, scoresAt_apply, form_eq h (fin1 h), form_eq h (fin2 h), form_eq h (fin3 h), form_eq h (fin4 h)]
  unfold logits
  rw [joined_apply, add_apply, add_apply, e5, e6, score_apply ha (H2_apply ha) (C1_apply ha), score_apply ha (H1_apply ha) (C2_apply ha),
    score_apply ha (H4_apply ha) (C1_apply ha), score_apply ha (H3_apply ha) (C2_apply ha)]

/-- The first hidden arrays are equal. -/
theorem eq_hidden1 (ha : Agree m m' c) :
    shapeCast Cert.KernelIdeal.S1x4096x128 (stack (hb1 m c)) Cert.KernelIdeal.Gen.shapeCasts_S4096x128_S1x4096x128 = H1 m' c := by
  funext y
  idx_vars y
  obtain rfl : y0 = 0 := Subsingleton.elim _ _
  rw [hidden_out, stack_eq _ _ (hb1_apply m c), H1_apply ha]

/-- The second hidden arrays are equal. -/
theorem eq_hidden2 (ha : Agree m m' c) :
    shapeCast Cert.KernelIdeal.S1x4096x128 (stack (hb2 m c)) Cert.KernelIdeal.Gen.shapeCasts_S4096x128_S1x4096x128 = H2 m' c := by
  funext y
  idx_vars y
  obtain rfl : y0 = 0 := Subsingleton.elim _ _
  rw [hidden_out, stack_eq _ _ (hb2_apply m c), H2_apply ha]

end Cert.Proof

end
-- ==== Proof.lean ====
module

public import proofs.«01_k».proof.Proof.Gen.Pre_finite
public import proofs.«01_k».proof.Proof.Gen.ReferenceIdeal.Run
public import proofs.«01_k».proof.Proof.Same
public import proofs.«01_k».proof.Proof.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- From agreeing arguments that meet the precondition the two programs end with equal results. -/
theorem algebraic : Cert.algebraic_KernelIdeal_ReferenceIdeal_pre_finite := by
  intro m g m' g' hpre hagree
  have hf : ∀ c, AllFin m c := fun c => allFin hpre
  refine ⟨fun c => Cert.ReferenceIdeal.Body.logits m' c, fun c => Cert.ReferenceIdeal.Body.H1 m' c,
    fun c => Cert.ReferenceIdeal.Body.H2 m' c, ?_, ?_⟩
  · refine (θ_run _ _ _).mono (fun r h c => ?_) (θ_run_and (Cert.KernelIdeal.Body.run m g) (Cert.KernelIdeal.Body.frame m g))
    obtain ⟨hv, ha, _⟩ := h
    exact ⟨(hv c).1.trans (eq_scores (hf c) (hagree c)), (hv c).2.1.trans (eq_hidden1 (hagree c)),
      (hv c).2.2.trans (eq_hidden2 (hagree c)), ha c⟩
  · exact Cert.ReferenceIdeal.Body.run m' g'

theorem claim : Cert.Claim :=
  ⟨Cert.Kernel.Gen.facts, Cert.KernelIdeal.Gen.facts, Cert.ReferenceIdeal.Gen.facts, Cert.Pre_finite.Gen.facts,
    kernel_quiescent,
    fun m g _ => Cert.KernelIdeal.Body.frame m g,
    fun m g _ => Cert.KernelIdeal.Body.frame m g,
    fun m g _ => Cert.ReferenceIdeal.Body.frame m g,
    fun m g _ => Cert.ReferenceIdeal.Body.frame m g,
    trivial,
    algebraic⟩

end Cert.Proof

end
